-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![8192, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S8192x512 : Shape := ⟨2, ![8192, 512]⟩
abbrev S5 : Shape := ⟨1, ![5]⟩
abbrev S4 : Shape := ⟨1, ![4]⟩
abbrev S1 : Shape := ⟨1, ![1]⟩
abbrev S_ : Shape := ⟨0, ![]⟩
abbrev S512x512 : Shape := ⟨2, ![512, 512]⟩
abbrev S1024x512 : Shape := ⟨2, ![1024, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x512, .bf16⟩
  | .hbm, ⟨1, _⟩ => ⟨S8192x512, .bf16⟩
  | .local _ .vmem, ⟨0, _⟩ => ⟨S8192x512, .bf16⟩
  | .local _ .vmem, ⟨1, _⟩ => ⟨S2048x512, .bf16⟩
  | _, _ => ⟨S2048x512, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_29 : BitVec 32 := 1#32
  let v42 : BitVec 32 := Scalar.muli v13 c1_i32_29
  let v43 : BitVec 32 := Scalar.addi c0_i32_30 v42
  v43.toNat
def k0_dev2 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_32 : BitVec 32 := 1#32
  let v44 : BitVec 32 := Scalar.muli v24 c1_i32_32
  let v45 : BitVec 32 := Scalar.addi c0_i32_33 v44
  v45.toNat
def k0_off1 (d0 : Dev nD) (c0_i32_49 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v46 : BitVec 32 := Scalar.muli v2 c2048_i32
  let v60 : BitVec 32 := Scalar.addi v46 c0_i32_49
  let v61 : Index := Scalar.indexCast v60
  let c0_50 : Index := 0#32
  ![v61.toNat, 0]
def k0_off2 (d0 : Dev nD) (c0_i32_35 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v46 : BitVec 32 := Scalar.muli v2 c2048_i32
  let v47 : BitVec 32 := Scalar.addi v46 c0_i32_35
  let c0_i32_55 : BitVec 32 := 0#32
  ![v47.toNat, 0]
def k0_dev3 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_53 : BitVec 32 := 1#32
  let v63 : BitVec 32 := Scalar.muli v24 c1_i32_53
  let v64 : BitVec 32 := Scalar.addi c0_i32_54 v63
  v64.toNat
def k0_dev4 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_67 : BitVec 32 := 1#32
  let v79 : BitVec 32 := Scalar.muli v13 c1_i32_67
  let v80 : BitVec 32 := Scalar.addi c0_i32_68 v79
  v80.toNat
def k0_dev5 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_81 : BitVec 32 := 1#32
  let v95 : BitVec 32 := Scalar.muli v24 c1_i32_81
  let v96 : BitVec 32 := Scalar.addi c0_i32_82 v95
  v96.toNat
def k0_dev6 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_87 : BitVec 32 := 1#32
  let v103 : BitVec 32 := Scalar.muli v13 c1_i32_87
  let v104 : BitVec 32 := Scalar.addi c0_i32_88 v103
  v104.toNat
def k0_dev7 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_101 : BitVec 32 := 1#32
  let v119 : BitVec 32 := Scalar.muli v13 c1_i32_101
  let v120 : BitVec 32 := Scalar.addi c0_i32_102 v119
  v120.toNat
def k0_dev8 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_107 : BitVec 32 := 1#32
  let v127 : BitVec 32 := Scalar.muli v24 c1_i32_107
  let v128 : BitVec 32 := Scalar.addi c0_i32_108 v127
  v128.toNat
def k0_dev9 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_113 : BitVec 32 := 1#32
  let v135 : BitVec 32 := Scalar.muli v24 c1_i32_113
  let v136 : BitVec 32 := Scalar.addi c0_i32_114 v135
  v136.toNat
def k0_dev10 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_119 : BitVec 32 := 1#32
  let v143 : BitVec 32 := Scalar.muli v13 c1_i32_119
  let v144 : BitVec 32 := Scalar.addi c0_i32_120 v143
  v144.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c2048_i32_135 : BitVec 32 := 2048#32
  let v163 : BitVec 32 := Scalar.muli v13 c2048_i32_135
  let c0_i32_140 : BitVec 32 := 0#32
  ![v163.toNat, 0]
def k0_dev11 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_138 : BitVec 32 := 1#32
  let v164 : BitVec 32 := Scalar.muli v24 c1_i32_138
  let v165 : BitVec 32 := Scalar.addi c0_i32_139 v164
  v165.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c2048_i32_154 : BitVec 32 := 2048#32
  let v184 : BitVec 32 := Scalar.muli v24 c2048_i32_154
  let c1024_i32_155 : BitVec 32 := 1024#32
  let v185 : BitVec 32 := Scalar.addi v184 c1024_i32_155
  let c0_i32_160 : BitVec 32 := 0#32
  ![v185.toNat, 0]
def k0_dev12 (d0 : Dev nD) : Nat :=
  let c0_i32_159 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_158 : BitVec 32 := 1#32
  let v186 : BitVec 32 := Scalar.muli v13 c1_i32_158
  let v187 : BitVec 32 := Scalar.addi c0_i32_159 v186
  v187.toNat
abbrev stage0_0 : Fin 1 → Memref sig .tc .vmem S8192x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x512 : Shape := ⟨2, ![8192, 512]⟩

abbrev nBuf : Space → Nat
  | .hbm => 1
  | .vmem => 0
  | .smem => 0
  | _ => 0

abbrev bufTy : (tb : Table) → Fin (tcTables nBuf tb) → BufTy
  | .hbm, ⟨0, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Region.lean ====
/-
# The pieces of the gathered array

The result buffer of every device (8192 rows of 512) is cut into bands of rows. This module names the ring's
neighbours, the table saying which band each transfer moves, the one function `gath` that every device's buffer
holds in the end, and the facts about bands: which elements a slice of the buffer covers, how a band splits in
two, how the whole buffer splits into the fourteen bands the kernel works with.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Pipeline.ValueKit
public import Idealize.ShloMosaic.Lib.Tactic

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds library's resources, duties named by a truth value. -/
abbrev UB : Type := URounds (GSem nD τ sig) Bool
/-- The pipeline library's resources beside the rounds library's. -/
abbrev UU : Type := UR sig nD τ × UB

local notation "𝕄" => MT nD τ sig Unit (Elt F) ℕ UU ℕ

variable (m : (ℓ : Loc nD τ sig) → Buf (Elt F) ℓ) (ρ : Dev nD → PrngReg)

/-! ## The ring -/

set_option backward.proofsInPublic true in
/-- The device to the right. -/
def nxt (c : Dev nD) : Dev nD := ⟨(c.val + 1) % 4, Nat.mod_lt _ (by decide)⟩
set_option backward.proofsInPublic true in
/-- The device to the left. -/
def prv (c : Dev nD) : Dev nD := ⟨(c.val + 3) % 4, Nat.mod_lt _ (by decide)⟩
set_option backward.proofsInPublic true in
/-- The device across the ring. -/
def opp (c : Dev nD) : Dev nD := ⟨(c.val + 2) % 4, Nat.mod_lt _ (by decide)⟩

/-- Back after forth. -/
theorem prv_nxt (c : Dev nD) : prv (nxt c) = c := by revert c; decide
/-- Forth after back. -/
theorem nxt_prv (c : Dev nD) : nxt (prv c) = c := by revert c; decide

/-- One step to the right, as a bijection of the devices. -/
def ring : Dev nD ≃ Dev nD := ⟨nxt, prv, prv_nxt, nxt_prv⟩

/-! ## The table of transfers

The 25 indices are the launch's DMA semaphores: 0 the staging one, 1–5 the sends to the right, 6–10 the receives
from the left, 11–15 the sends to the left, 16–20 the receives from the right, 21–24 the local copies. -/

/-- Whose block the band of index `j` on device `c` belongs to. -/
def own (c : Dev nD) (j : Fin 25) : Dev nD :=
  if j.val ≤ 4 then c else if j.val ≤ 9 then prv c else if j.val = 10 then opp c
  else if j.val ≤ 14 then c else if j.val ≤ 19 then nxt c else if j.val = 20 then opp c else c

/-- The band's first row inside that block. -/
def off (j : Fin 25) : ℕ :=
  if j.val = 7 ∨ j.val = 2 ∨ j.val = 14 ∨ j.val = 19 ∨ j.val = 23 then 512
  else if j.val = 8 ∨ j.val = 3 ∨ j.val = 11 ∨ j.val = 16 ∨ j.val = 22 ∨ j.val = 15 ∨ j.val = 20 then 1024
  else if j.val = 9 ∨ j.val = 4 ∨ j.val = 12 ∨ j.val = 17 ∨ j.val = 24 then 1536
  else 0

/-- The band's first row in the whole array. -/
def start (c : Dev nD) (j : Fin 25) : ℕ := 2048 * (own c j).val + off j

/-- The band's number of rows: the second hop moves half a block, everything else a quarter. -/
def len (j : Fin 25) : ℕ := if j.val = 5 ∨ j.val = 10 ∨ j.val = 15 ∨ j.val = 20 then 1024 else 512

/-- The share of the band a transfer holds while under way: a quarter of the device's own block is read by two
    transfers at once, so each holds one half. -/
def shr (j : Fin 25) : PosShare TreeShare :=
  if 1 ≤ j.val ∧ j.val ≤ 4 then fullShare.left else if 11 ≤ j.val ∧ j.val ≤ 14 then fullShare.right else fullShare

/-! ## Bands of rows -/

/-- The elements of the rows `a … a+n` of an array of `R` rows of 512. -/
def rows (R a n : ℕ) : Finset (⟨2, ![R, 512]⟩ : Shape).Idx :=
  Finset.univ.filter fun i => a ≤ (i 0).val ∧ (i 0).val < a + n

/-- Being in a band. -/
theorem mem_rows {R a n : ℕ} {i : (⟨2, ![R, 512]⟩ : Shape).Idx} : i ∈ rows R a n ↔ a ≤ (i 0).val ∧ (i 0).val < a + n := by
  unfold rows; rw [Finset.mem_filter]; exact ⟨fun h => h.2, fun h => ⟨Finset.mem_univ _, h⟩⟩

/-- Bands one above the other share no element. -/
theorem rows_disjoint {R a n b k : ℕ} (h : a + n ≤ b ∨ b + k ≤ a) : Disjoint (rows R a n) (rows R b k) :=
  Finset.disjoint_left.mpr fun i h1 h2 => by rw [mem_rows] at h1 h2; omega

/-- A band cut in two. -/
theorem rows_union (R a n k : ℕ) : rows R a (n + k) = rows R a n ∪ rows R (a + n) k := by
  ext i; rw [Finset.mem_union, mem_rows, mem_rows, mem_rows]; omega

/-- The band of all rows. -/
theorem rows_whole (R : ℕ) : rows R 0 R = Finset.univ := by
  ext i; rw [mem_rows]
  exact ⟨fun _ => Finset.mem_univ _, fun _ => ⟨Nat.zero_le _, by rw [Nat.zero_add]; exact (i 0).isLt⟩⟩

/-- A full-width rectangle's elements are a band. -/
theorem rect_rows {R k a : ℕ} {f : Fin 2 → ℕ} (hf : f = ![a, 0]) (inb : ∀ x, f x + (![k, 512] : Fin 2 → ℕ) x ≤ (![R, 512] : Fin 2 → ℕ) x) :
    (Rect.unit (s := ⟨2, ![R, 512]⟩) f ![k, 512] inb).set = rows R a k := by
  subst hf
  ext i
  rw [Rect.mem_set_unit, mem_rows]
  constructor
  · intro h; exact h 0
  · intro h x
    fin_cases x
    · exact h
    · exact ⟨Nat.zero_le _, by have := (i 1).isLt; simpa using this⟩

/-! ## What the buffers hold -/

set_option backward.proofsInPublic true in
/-- The device whose block row `i 0` of the whole array lies in. -/
def blk (i : S8192x512.Idx) : Dev nD := ⟨(i 0).val / 2048, by have h : (i 0).val < 8192 := (i 0).isLt; show _ < 4; omega⟩

set_option backward.proofsInPublic true in
/-- The element's place inside that block. -/
def loc (i : S8192x512.Idx) : S2048x512.Idx := fun a =>
  if h : a = 0 then ⟨(i 0).val % 2048, by subst h; exact Nat.mod_lt _ (by decide)⟩ else ⟨(i a).val, by
    have h1 : a = 1 := by revert h; revert a; decide
    subst h1; exact (i 1).isLt⟩

/-- Its row there. -/
theorem loc_0 (i : S8192x512.Idx) : (loc i 0).val = (i 0).val % 2048 := by unfold loc; rw [dif_pos rfl]
/-- Its column is kept. -/
theorem loc_1 (i : S8192x512.Idx) : (loc i 1).val = (i 1).val := by unfold loc; rw [dif_neg (by decide)]

/-- Device `c`'s argument array. -/
abbrev xin (c : Dev nD) : (main_arg0 : Ref sig .tc).ty.Contents (Elt F) := m ((c : Thread nD τ).loc main_arg0)

/-- The gathered array: row `r` is row `r mod 2048` of device `r / 2048`'s argument. -/
def gath : (cc0_stg0_0 : Ref sig .tc).ty.Contents (Elt F) := fun i => xin m (blk i) (loc i)

/-! ## Ownership of a band -/

/-- Rows `a … a+n` of device `c`'s result buffer, holding `f`. -/
def band (c : Dev nD) (a n : ℕ) (q : PosShare TreeShare) (f : (cc0_stg0_0 : Ref sig .tc).ty.Contents (Elt F)) : sProp 𝕄 :=
  ((c : Thread nD τ).loc cc0_stg0_0) ↦[rows 8192 a n]{q} f

/-- Rows `a … a+n` of device `c`'s working copy of its block. -/
def xvb (c : Dev nD) (a n : ℕ) (f : (cc0_scratch0 : Ref sig .tc).ty.Contents (Elt F)) : sProp 𝕄 :=
  ((c : Thread nD τ).loc cc0_scratch0) ↦[rows 2048 a n]{fullShare} f

/-- Rows `a … a+n` of device `c`'s argument. -/
def xab (c : Dev nD) (a n : ℕ) : sProp 𝕄 :=
  ((c : Thread nD τ).loc main_arg0) ↦[rows 2048 a n]{fullShare} xin m c

omit [FloatOps F] in
/-- A band may be kept in an invariant; -/
instance band_storable (c : Dev nD) (a n q f) : BI.Storable (upEmb : UEmb _ 𝕄) (band (F := F) c a n q f) := by unfold band; infer_instance
omit [FloatOps F] in
/-- so may one of the scratch buffer, -/
instance xvb_storable (c : Dev nD) (a n f) : BI.Storable (upEmb : UEmb _ 𝕄) (xvb (F := F) c a n f) := by unfold xvb; infer_instance
omit [FloatOps F] in
/-- and one of the argument. -/
instance xab_storable (c : Dev nD) (a n) : BI.Storable (upEmb : UEmb _ 𝕄) (xab (F := F) m c a n) := by unfold xab; infer_instance

omit [FloatOps F] in
/-- Assertions that entail each other are equal. -/
theorem bi_eq {P Q : sProp 𝕄} (h : P ⊣⊢ Q) : P = Q := equiv_iff.mp ⟨h.1, h.2⟩

omit [FloatOps F] in
/-- A band of 1024 rows is two of 512. -/
theorem band_two (c : Dev nD) (a : ℕ) (q f) : (band c a 1024 q f : sProp 𝕄) = iprop(band c a 512 q f ∗ band c (a + 512) 512 q f) := by
  unfold band
  rw [show (1024 : ℕ) = 512 + 512 from rfl, rows_union]
  exact bi_eq (pointsTo_union (ℓ := (c : Thread nD τ).loc cc0_stg0_0) (rows_disjoint (Or.inl le_rfl)))

omit [FloatOps F] in
/-- A band held whole is its two halves. -/
theorem band_half (c : Dev nD) (a n : ℕ) (f) : (band c a n fullShare f : sProp 𝕄) = iprop(band c a n fullShare.left f ∗ band c a n fullShare.right f) := by
  unfold band
  exact bi_eq (pointsTo_share (PosShare.mem_left_op_right fullShare))

/-- The fourteen bands device `c` works with at the start: its own four quarters, and one band per receive. -/
def pieces : Finset (Fin 25) := {1, 2, 3, 4, 6, 7, 8, 9, 10, 16, 17, 18, 19, 20}

/-- The pieces are pairwise apart; -/
theorem pieces_apart : ∀ c : Dev nD, ∀ j ∈ pieces, ∀ k ∈ pieces, j ≠ k → start c j + len j ≤ start c k ∨ start c k + len k ≤ start c j := by
  decide +kernel

/-- every quarter of every block lies in one; -/
theorem pieces_reach : ∀ c b : Dev nD, ∀ q : Fin 4, ∃ j ∈ pieces, start c j ≤ 2048 * b.val + 512 * q.val ∧ 2048 * b.val + 512 * q.val + 512 ≤ start c j + len j := by
  decide +kernel

/-- so they are all of the result. -/
theorem pieces_cover (c : Dev nD) : pieces.biUnion (fun j => rows 8192 (start c j) (len j)) = Finset.univ := by
  ext i
  refine ⟨fun _ => Finset.mem_univ _, fun _ => Finset.mem_biUnion.mpr ?_⟩
  have hi : (i 0).val < 8192 := (i 0).isLt
  obtain ⟨j, hj, h1, h2⟩ := pieces_reach c ⟨(i 0).val / 2048, by show _ < 4; omega⟩ ⟨(i 0).val % 2048 / 512, by omega⟩
  refine ⟨j, hj, mem_rows.mpr ?_⟩
  dsimp only at h1 h2
  omega

omit [FloatOps F] in
/-- The whole result buffer is its fourteen bands. -/
theorem whole_pieces (c : Dev nD) (f) :
    (((c : Thread nD τ).loc cc0_stg0_0) ↦{fullShare} f : sProp 𝕄) = bigSep pieces fun j => band c (start c j) (len j) fullShare f := by
  unfold band
  exact (congrArg (fun I => (((c : Thread nD τ).loc cc0_stg0_0) ↦[I]{fullShare} f : sProp 𝕄)) (pieces_cover c).symm).trans
    (pointsTo_biUnion (ℓ := (c : Thread nD τ).loc cc0_stg0_0) pieces (fun j => rows 8192 (start c j) (len j)) (fun j hj k hk h => rows_disjoint (pieces_apart c j hj k hk h)))

/-- The four quarters of a block, by the local copy that brings them. -/
def quarters : Finset (Fin 25) := {21, 22, 23, 24}

/-- The quarters are pairwise apart; -/
theorem quarters_apart : ∀ j ∈ quarters, ∀ k ∈ quarters, j ≠ k → off j + 512 ≤ off k ∨ off k + 512 ≤ off j := by decide +kernel
/-- there is one at every multiple of 512; -/
theorem quarters_reach : ∀ q : Fin 4, ∃ j ∈ quarters, off j = 512 * q.val := by decide +kernel

/-- so they are all of a block. -/
theorem quarters_cover : quarters.biUnion (fun j => rows 2048 (off j) 512) = Finset.univ := by
  ext i
  refine ⟨fun _ => Finset.mem_univ _, fun _ => Finset.mem_biUnion.mpr ?_⟩
  have hi : (i 0).val < 2048 := (i 0).isLt
  obtain ⟨j, hj, h1⟩ := quarters_reach ⟨(i 0).val / 512, by omega⟩
  refine ⟨j, hj, mem_rows.mpr ?_⟩
  dsimp only at h1
  omega

omit [FloatOps F] in
/-- The working copy is its four quarters. -/
theorem xv_quarters (c : Dev nD) (f) :
    (((c : Thread nD τ).loc cc0_scratch0) ↦{fullShare} f : sProp 𝕄) = bigSep quarters fun j => xvb c (off j) 512 f := by
  unfold xvb
  exact (congrArg (fun I => (((c : Thread nD τ).loc cc0_scratch0) ↦[I]{fullShare} f : sProp 𝕄)) quarters_cover.symm).trans
    (pointsTo_biUnion (ℓ := (c : Thread nD τ).loc cc0_scratch0) quarters (fun j => rows 2048 (off j) 512) (fun j hj k hk h => rows_disjoint (quarters_apart j hj k hk h)))

omit [FloatOps F] in
/-- The argument is its four quarters. -/
theorem xa_quarters (c : Dev nD) :
    (((c : Thread nD τ).loc main_arg0) ↦{fullShare} xin m c : sProp 𝕄) = bigSep quarters fun j => xab m c (off j) 512 := by
  unfold xab
  exact (congrArg (fun I => (((c : Thread nD τ).loc main_arg0) ↦[I]{fullShare} (xin m c) : sProp 𝕄)) quarters_cover.symm).trans
    (pointsTo_biUnion (ℓ := (c : Thread nD τ).loc main_arg0) quarters (fun j => rows 2048 (off j) 512) (fun j hj k hk h => rows_disjoint (quarters_apart j hj k hk h)))

/-! ## Slices of the buffers -/

/-- The result buffer. -/
abbrev oM : Memref sig .tc .vmem S8192x512 .bf16 := Memref.whole cc0_stg0_0
/-- The working copy. -/
abbrev vM : Memref sig .tc .vmem S2048x512 .bf16 := Memref.whole cc0_scratch0
/-- The argument. -/
abbrev aM : Memref sig .tc .hbm S2048x512 .bf16 := Memref.whole main_arg0

/-- A full-width slice of the result buffer covers a band. -/
theorem oM_set {k a : ℕ} {f : Fin 2 → ℕ} (hf : f = ![a, 0]) (inb : ∀ x, f x + (![k, 512] : Fin 2 → ℕ) x ≤ S8192x512.size x) (hs) :
    (oM.slice (Rect.unit (s := S8192x512) f ![k, 512] inb) hs).view.set = rows 8192 a k :=
  (View.set_slice_whole _ _).trans (rect_rows hf inb)
/-- A full-width slice of the scratch buffer covers a band; -/
theorem vM_set {k a : ℕ} {f : Fin 2 → ℕ} (hf : f = ![a, 0]) (inb : ∀ x, f x + (![k, 512] : Fin 2 → ℕ) x ≤ S2048x512.size x) (hs) :
    (vM.slice (Rect.unit (s := S2048x512) f ![k, 512] inb) hs).view.set = rows 2048 a k :=
  (View.set_slice_whole _ _).trans (rect_rows hf inb)
/-- so does one of the argument. -/
theorem aM_set {k a : ℕ} {f : Fin 2 → ℕ} (hf : f = ![a, 0]) (inb : ∀ x, f x + (![k, 512] : Fin 2 → ℕ) x ≤ S2048x512.size x) (hs) :
    (aM.slice (Rect.unit (s := S2048x512) f ![k, 512] inb) hs).view.set = rows 2048 a k :=
  (View.set_slice_whole _ _).trans (rect_rows hf inb)

omit [FloatOps F] in
/-- What a transfer writes where it lands is what the same slice of its source held. -/
theorem landed {κ : Kind} {sp : Space} {s : Shape} {e : EltTy} (v : View sig κ sp s e) (fd g : v.ty.Contents (Elt F)) :
    ∀ i ∈ v.set, v.write (Elt F) fd (v.read (Elt F) g) Finset.univ i = g i := fun i hi => by
  obtain ⟨x, rfl⟩ := View.exists_emb_of_mem_set v hi
  rw [View.write_emb_of_mem _ _ (Finset.mem_univ _), View.read_apply, cast_cast, cast_eq]

omit [FloatOps F] in
/-- A local copy leaves the argument's rows in the same rows of the working copy. -/
theorem copied {f : Fin 2 → ℕ} (inb inb') (hs hs') (fd : (cc0_scratch0 : Ref sig .tc).ty.Contents (Elt F)) (g : (main_arg0 : Ref sig .tc).ty.Contents (Elt F)) :
    ∀ i ∈ (vM.slice (Rect.unit (s := S2048x512) f S512x512.size inb) hs).view.set,
      (vM.slice (Rect.unit (s := S2048x512) f S512x512.size inb) hs).view.write (Elt F) fd
        ((aM.slice (Rect.unit (s := S2048x512) f S512x512.size inb') hs').view.read (Elt F) g) Finset.univ i = g i := fun i hi => by
  obtain ⟨x, rfl⟩ := View.exists_emb_of_mem_set _ hi
  rw [View.write_emb_of_mem _ _ (Finset.mem_univ _), View.read_apply, cast_cast, cast_eq]
  rfl

omit [FloatOps F] in
/-- The quarter a device stores into its own block of the result is the gathered array there. -/
theorem converted (c : Dev nD) {j : Fin 25} (hj : j ∈ quarters) {f g : Fin 2 → ℕ} (hf : f = ![2048 * c.val + off j, 0]) (hg : g = ![off j, 0])
    (inb inb') (fd : (cc0_stg0_0 : Ref sig .tc).ty.Contents (Elt F)) :
    ∀ i ∈ (oM.access (Rect.unit (s := S8192x512) f S512x512.size inb)).set,
      (oM.access (Rect.unit (s := S8192x512) f S512x512.size inb)).write (Elt F) fd
        (vM.view.readAt (Elt F) (Rect.unit (s := S2048x512) g S512x512.size inb').toLoadRect (xin m c)) Finset.univ i = gath m i := fun i hi => by
  obtain ⟨x, rfl⟩ := View.exists_emb_of_mem_set _ hi
  rw [View.write_emb_of_mem _ _ (Finset.mem_univ _), View.readAt_apply, View.read_apply]
  have hq : off j + 512 ≤ 2048 := (by decide +kernel : ∀ j ∈ quarters, off j + 512 ≤ 2048) j hj
  have hx : (x 0).val < 512 := (x 0).isLt
  have e0 : (((oM.access (Rect.unit (s := S8192x512) f S512x512.size inb)).emb x (0 : Fin 2) : Fin _) : ℕ) = 2048 * c.val + off j + (x 0).val := by
    subst hf; exact ValueKit.view_emb_slice_whole_unit_val cc0_stg0_0 _ _ inb x (0 : Fin 2)
  have e1 : (((oM.access (Rect.unit (s := S8192x512) f S512x512.size inb)).emb x (1 : Fin 2) : Fin _) : ℕ) = (x 1).val := by
    subst hf; exact (ValueKit.view_emb_slice_whole_unit_val cc0_stg0_0 _ _ inb x (1 : Fin 2)).trans (Nat.zero_add _)
  have hb : blk ((oM.access (Rect.unit (s := S8192x512) f S512x512.size inb)).emb x) = c := Fin.ext (by
    show (((oM.access (Rect.unit (s := S8192x512) f S512x512.size inb)).emb x (0 : Fin 2) : Fin _) : ℕ) / 2048 = c.val
    rw [e0]; omega)
  unfold gath
  rw [hb]
  show xin m c _ = xin m c _
  congr 1
  subst hg
  funext a
  fin_cases a
  · refine Fin.ext ((ValueKit.view_emb_slice_whole_unit_val main_arg0 _ _ inb' x (0 : Fin 2)).trans ((Eq.trans ?_ (loc_0 _).symm)))
    rw [e0]; show off j + (x 0).val = _; omega
  · refine Fin.ext ((ValueKit.view_emb_slice_whole_unit_val main_arg0 _ _ inb' x (1 : Fin 2)).trans ((Eq.trans ?_ (loc_1 _).symm)))
    rw [e1]; exact Nat.zero_add _

end Cert.Gather

end
-- ==== Proof.Sched.lean ====
/-
# The schedule of the semaphores

Every device has 25 cells: its barrier semaphore (index 0 here) and the 24 DMA semaphores of the kernel's own
(indices 1–24). Each is used for one round. This module says what each round hands over, what every device owes
at launch, and the order of levels that makes every wait admissible.
-/
module

public import proofs.«01_k».proof.Proof.Region

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The pipeline library's resources inside the whole. -/
abbrev EP : Emb (UR sig nD τ) (MT nD τ sig Unit (Elt F) ℕ UU ℕ) := embL
/-- The rounds library's resources inside the whole. -/
abbrev ER : Emb UB (MT nD τ sig Unit (Elt F) ℕ UU ℕ) := embR

variable (m : (ℓ : Loc nD τ sig) → Buf (Elt F) ℓ) (ρ : Dev nD → PrngReg)

/-! ## Cells -/

/-- The runtime's barrier semaphore. -/
abbrev barS : Sem sig := (SemArray.scalar (sig.barrier 0 rfl) : Sems sig S_).sem

/-- A device's cells: the barrier, then the kernel's own DMA semaphores. -/
abbrev csem (j : Fin 25) : SemLoc sig := if j = 0 then .reg barS else .dma (j : DmaSem sig)
/-- Device `d`'s cell `j`. -/
abbrev kcell (dj : Dev nD × Fin 25) : GSem nD τ sig := ((dj.1 : Thread nD τ), csem dj.2)
/-- Device `d`'s barrier cell. -/
abbrev barCell (d : Dev nD) : GSem nD τ sig := ((d : Thread nD τ), .reg barS)
/-- Device `d`'s cell of DMA semaphore `j`. -/
abbrev dcell (d : Dev nD) (j : Fin 25) : GSem nD τ sig := ((d : Thread nD τ), .dma (j : DmaSem sig))

/-- Any index but 0 names a DMA semaphore. -/
theorem kcell_pos (d : Dev nD) {j : Fin 25} (h : j ≠ 0) : kcell (d, j) = dcell d j := by unfold kcell csem dcell; rw [if_neg h]
/-- Index 0 names the barrier. -/
theorem kcell_zero (d : Dev nD) : kcell (d, 0) = barCell d := rfl

/-- The credit a transfer of `k` rows into the result buffer brings. -/
abbrev credS : ℕ := (oM.slice (Rect.unit (s := S8192x512) ![0, 0] ![512, 512] (by decide)) (fun _ => rfl)).view.dmaCredit
/-- The credit of 1024 rows. -/
abbrev credL : ℕ := (oM.slice (Rect.unit (s := S8192x512) ![0, 0] ![1024, 512] (by decide)) (fun _ => rfl)).view.dmaCredit
/-- The credit a local copy of a quarter brings. -/
abbrev credX : ℕ := (vM.slice (Rect.unit (s := S2048x512) ![0, 0] ![512, 512] (by decide)) (fun _ => rfl)).view.dmaCredit

/-- The credit of the transfer of index `j`. -/
def crd (j : Fin 25) : ℕ := if 21 ≤ j.val then credX else if len j = 1024 then credL else credS

/-- No credit is zero. -/
theorem crd_pos (j : Fin 25) : 0 < crd j := by
  unfold crd; split
  · exact View.dmaCredit_pos _ (by decide)
  · split <;> exact View.dmaCredit_pos _ (by decide)

/-! ## What each round hands over -/

/-- The landing band of receive `r` on device `d`, at whatever it holds. -/
def slot (d : Dev nD) (r : Fin 25) : sProp 𝕄 := iprop(∃ f, band d (start d r) (len r) fullShare f)

/-- Everything the right neighbour lends its left one: the landing bands of its five receives from the left. -/
def lendR (d : Dev nD) : sProp 𝕄 := iprop(slot d 6 ∗ slot d 7 ∗ slot d 8 ∗ slot d 9 ∗ slot d 10)
/-- The landing bands of a device's five receives from the right. -/
def lendL (d : Dev nD) : sProp 𝕄 := iprop(slot d 16 ∗ slot d 17 ∗ slot d 18 ∗ slot d 19 ∗ slot d 20)

/-- What the round of DMA semaphore `j` of device `d` hands over: its band of the result buffer at the gathered
    contents, or, for a local copy, the quarter of the working copy filled and the argument's quarter back. -/
def dpay (d : Dev nD) (j : Fin 25) : sProp 𝕄 :=
  if 21 ≤ j.val then iprop(xvb d (off j) 512 (xin m d) ∗ xab m d (off j) 512) else band d (start d j) (len j) (shr j) (gath m)

/-- One round, round 0: a barrier cell is paid one unit by each neighbour, the right one (`true`) lending its landing
    bands for the transfers to the right, the left one (`false`) those to the left; a DMA cell is paid by its one
    transfer. -/
def sched : Rounds.Schedule (GSem nD τ sig) Bool 𝕄 where
  duties g r := if r = 0 then (match g.2 with | .reg _ => Finset.univ | .dma _ => {false}) else ∅
  unitless _ := False
  amount g _ _ := match g.2 with | .reg _ => 1 | .dma q => crd q
  payload g _ d := match g.2 with
    | .reg _ => if d then lendR (nxt g.1.1) else lendL (prv g.1.1)
    | .dma q => dpay m g.1.1 q
  amount_pos g _ _ _ := by
    rcases g with ⟨t, s | q⟩
    · exact Nat.one_pos
    · exact crd_pos q

omit [FloatOps F] in
/-- A landing band may be kept in an invariant; -/
instance slot_storable (d : Dev nD) (r) : BI.Storable (upEmb : UEmb _ 𝕄) (slot (F := F) d r) := by unfold slot; infer_instance
omit [FloatOps F] in
/-- so may what is lent to the right, -/
instance lendR_storable (d : Dev nD) : BI.Storable (upEmb : UEmb _ 𝕄) (lendR (F := F) d) := by unfold lendR; infer_instance
omit [FloatOps F] in
/-- what is lent to the left, -/
instance lendL_storable (d : Dev nD) : BI.Storable (upEmb : UEmb _ 𝕄) (lendL (F := F) d) := by unfold lendL; infer_instance
omit [FloatOps F] in
/-- what a DMA semaphore hands over, -/
instance dpay_storable (d : Dev nD) (j) : BI.Storable (upEmb : UEmb _ 𝕄) (dpay (F := F) m d j) := by
  unfold dpay; split <;> infer_instance

omit [FloatOps F] in
/-- hence whatever is handed over. -/
instance sched_storable (g : GSem nD τ sig) (r : ℕ) (d : Bool) : BI.Storable (upEmb : UEmb _ 𝕄) ((sched (F := F) m).payload g r d) := by
  rcases g with ⟨t, s | q⟩
  · show BI.Storable upEmb (if d then lendR (nxt t.1) else lendL (prv t.1))
    split <;> infer_instance
  · exact dpay_storable m t.1 q

section Tables
variable (d : Dev nD) (j : Fin 25)

omit [FloatOps F] in
/-- A barrier has two payers; -/
theorem duties_bar : (sched (F := F) m).duties (barCell d) 0 = Finset.univ := rfl
omit [FloatOps F] in
/-- a DMA semaphore one; -/
theorem duties_dma : (sched (F := F) m).duties (dcell d j) 0 = {false} := rfl
omit [FloatOps F] in
/-- and after the first round nobody pays. -/
theorem duties_later (g : GSem nD τ sig) : ∀ r, 0 + 1 ≤ r → (sched (F := F) m).duties g r = ∅ := fun r hr => if_neg (by omega)
omit [FloatOps F] in
/-- The one payer of a DMA semaphore is a payer. -/
theorem mem_dma : false ∈ (sched (F := F) m).duties (dcell d j) 0 := Finset.mem_singleton_self _
omit [FloatOps F] in
/-- Either payer of a barrier is one. -/
theorem mem_bar (b : Bool) : b ∈ (sched (F := F) m).duties (barCell d) 0 := Finset.mem_univ b
omit [FloatOps F] in
/-- A barrier is paid one unit at a time; -/
theorem amount_bar (b : Bool) : (sched (F := F) m).amount (barCell d) 0 b = 1 := rfl
omit [FloatOps F] in
/-- a DMA semaphore the credit of its transfer. -/
theorem amount_dma' (b : Bool) : (sched (F := F) m).amount (dcell d j) 0 b = crd j := rfl
omit [FloatOps F] in
/-- What is handed over by a transfer. -/
theorem payload_dma (b : Bool) : (sched (F := F) m).payload (dcell d j) 0 b = dpay m d j := rfl
omit [FloatOps F] in
/-- What the next device lends. -/
theorem payload_bar_true : (sched (F := F) m).payload (barCell d) 0 true = lendR (nxt d) := rfl
omit [FloatOps F] in
/-- What the one before lends. -/
theorem payload_bar_false : (sched (F := F) m).payload (barCell d) 0 false = lendL (prv d) := rfl

omit [FloatOps F] in
/-- A barrier expects two units; -/
theorem expect_bar : (sched (F := F) m).expect (barCell d) 0 = 2 := by
  unfold Schedule.expect Schedule.amountOf
  rw [duties_bar, Finset.sum_congr rfl fun b _ => amount_bar m d b]; rfl
omit [FloatOps F] in
/-- a DMA semaphore one credit. -/
theorem expect_dma : (sched (F := F) m).expect (dcell d j) 0 = crd j := by
  unfold Schedule.expect Schedule.amountOf; rw [duties_dma, Finset.sum_singleton, amount_dma']
omit [FloatOps F] in
/-- What a wait on a barrier cell brings: both neighbours' bands. -/
theorem rest_bar : bigSep ((sched (F := F) m).duties (barCell d) 0 \ ∅) (fun b => (sched (F := F) m).payload (barCell d) 0 b) = iprop(lendL (prv d) ∗ lendR (nxt d)) := by
  rw [Finset.sdiff_empty, duties_bar, bigSep_univ_eq_bigSepL [false, true] (by decide) (by decide), bigSepL_cons_cons, bigSepL_singleton]
  rfl
omit [FloatOps F] in
/-- What a wait on a DMA cell brings. -/
theorem rest_dma : bigSep ((sched (F := F) m).duties (dcell d j) 0 \ ∅) (fun b => (sched (F := F) m).payload (dcell d j) 0 b) = dpay m d j := by
  rw [Finset.sdiff_empty, duties_dma, bigSep_singleton, payload_dma]

end Tables

/-! ## Debts and levels -/

/-- Whom the transfer completing on receive semaphore `r` goes to. -/
def tgt (c : Dev nD) (r : Fin 25) : Dev nD := if r.val ≤ 10 then nxt c else prv c

/-- The device that transfer comes from. -/
def src (c : Dev nD) (r : Fin 25) : Dev nD := if r.val ≤ 10 then prv c else nxt c

/-- A receive comes to a device from one sender. -/
theorem tgt_eq_iff (c d : Dev nD) (r : Fin 25) : tgt d r = c ↔ d = src c r := by
  unfold tgt src; split
  · exact ⟨fun h => by rw [← h, prv_nxt], fun h => by rw [h, nxt_prv]⟩
  · exact ⟨fun h => by rw [← h, nxt_prv], fun h => by rw [h, prv_nxt]⟩

/-- The send semaphore of the transfer completing on receive semaphore `r`. -/
def snd (r : Fin 25) : Fin 25 := ⟨r.val - 5, by omega⟩

/-- The receive semaphores, in the order the kernel starts the transfers. -/
def order : List (Fin 25) := [6, 16, 7, 18, 17, 8, 9, 19, 10, 20]

/-- No transfer is started twice. -/
theorem order_nodup : order.Nodup := by decide
/-- A transfer's source and landing are the same rows, -/
theorem order_start : ∀ c : Dev nD, ∀ r ∈ order, start c (snd r) = start (tgt c r) r := by decide +kernel
/-- equally many, -/
theorem order_len : ∀ r ∈ order, len (snd r) = len r := by decide +kernel
/-- and a transfer is no local copy. -/
theorem order_low : ∀ r ∈ order, r.val ≤ 20 ∧ 6 ≤ r.val := by decide +kernel

/-- What device `c` still owes the receive cells of the transfers `l` it has yet to start. -/
def debt (c : Dev nD) : List (Fin 25) → CellTallies nD τ sig Unit
  | [] => 0
  | r :: l => debt c l + tallyAt (dcell (tgt c r) r) () (crd r)

/-- What device `c` owes at launch: its ten transfers, and a unit to each neighbour's barrier. -/
def owe₁ (c : Dev nD) : CellTallies nD τ sig Unit := debt c order + tallyAt (barCell (nxt c)) () 1
/-- Everything a device owes at launch: the transfers and both signals. -/
def owe₀ (c : Dev nD) : CellTallies nD τ sig Unit := owe₁ c + tallyAt (barCell (prv c)) () 1

/-- The level of DMA cell `j`: the first hop's receives at 2, the second hop's at 3, everything else at 0. -/
def dlev (j : Fin 25) : ℕ :=
  if j.val = 10 ∨ j.val = 20 then 3 else if (6 ≤ j.val ∧ j.val ≤ 9) ∨ (16 ≤ j.val ∧ j.val ≤ 19) then 2 else 0

/-- The one index of a TensorCore's cells. -/
def L (g : GSem nD τ sig) : Finset Unit := if g.1.2 = .tc then {()} else ∅
/-- The levels: a barrier cell at 1. -/
def lv (g : GSem nD τ sig) (_ : Unit) : ℕ := match g.2 with | .reg _ => 1 | .dma q => dlev q

/-- Only TensorCores have cells. -/
theorem L_of_ne (g : GSem nD τ sig) (h : g.1.2 ≠ .tc) : L g = ∅ := if_neg h
/-- Each of their cells has one index. -/
theorem L_tc (c : Dev nD) (sm : SemLoc sig) : L ((c : Thread nD τ), sm) = {()} := if_pos rfl

/-- DMA cells are the same only for the same device and semaphore. -/
theorem dcell_inj {c d : Dev nD} {i j : Fin 25} : dcell c i = dcell d j ↔ c = d ∧ i = j :=
  ⟨fun h => ⟨Fin.ext (congrArg (fun g : GSem nD τ sig => g.1.1.val) h), by
    have := congrArg Prod.snd h; exact SemLoc.dma.inj this⟩, fun h => by rw [h.1, h.2]⟩
/-- Barrier cells only for the same device. -/
theorem barCell_inj {c d : Dev nD} : barCell c = barCell d ↔ c = d :=
  ⟨fun h => Fin.ext (congrArg (fun g : GSem nD τ sig => g.1.1.val) h), fun h => by rw [h]⟩
/-- No DMA cell is a barrier. -/
theorem dcell_ne_bar (c d : Dev nD) (j : Fin 25) : dcell c j ≠ barCell d := fun h => by cases congrArg Prod.snd h

/-- A debt of transfers at a DMA cell: the credit of the transfer, if one of them ends there. -/
theorem debt_dma (c d : Dev nD) (j : Fin 25) : ∀ l : List (Fin 25), l.Nodup → debt c l (dcell d j) () = if j ∈ l ∧ tgt c j = d then crd j else 0
  | [], _ => by rw [if_neg (fun h => by cases h.1)]; rfl
  | r :: l, hl => by
    have ih := debt_dma c d j l (List.nodup_cons.mp hl).2
    show debt c l (dcell d j) () + tallyAt (dcell (tgt c r) r) () (crd r) (dcell d j) () = _
    rw [ih, tallyAt_apply]
    by_cases hj : j = r
    · subst hj
      rw [if_neg (fun h => (List.nodup_cons.mp hl).1 h.1), Nat.zero_add]
      by_cases ht : tgt c j = d
      · rw [if_pos ⟨dcell_inj.mpr ⟨ht.symm, rfl⟩, rfl⟩, if_pos ⟨List.mem_cons_self, ht⟩]
      · rw [if_neg (fun h => ht (dcell_inj.mp h.1).1.symm), if_neg (fun h => ht h.2)]
    · rw [if_neg (c := dcell d j = dcell (tgt c r) r ∧ () = ()) (fun h => hj (dcell_inj.mp h.1).2), Nat.add_zero]
      by_cases hm : j ∈ l ∧ tgt c j = d
      · rw [if_pos hm, if_pos ⟨List.mem_cons_of_mem _ hm.1, hm.2⟩]
      · rw [if_neg hm, if_neg (fun h => hm ⟨(List.mem_cons.mp h.1).resolve_left hj, h.2⟩)]

/-- The transfers owe a barrier nothing. -/
theorem debt_bar (c d : Dev nD) : ∀ l : List (Fin 25), debt c l (barCell d) () = 0
  | [] => rfl
  | r :: l => by
    show debt c l (barCell d) () + tallyAt (dcell (tgt c r) r) () (crd r) (barCell d) () = _
    rw [debt_bar c d l, tallyAt_apply, if_neg (fun h => dcell_ne_bar _ _ _ h.1.symm)]

/-- Whatever a debt of transfers holds at a cell, the cell is a receive cell of one of them. -/
theorem debt_pos (c : Dev nD) {g : GSem nD τ sig} {u : Unit} : ∀ {l : List (Fin 25)}, 0 < debt c l g u → ∃ r ∈ l, g = dcell (tgt c r) r
  | [], h => absurd h (Nat.lt_irrefl 0)
  | r :: l, h => by
    by_cases hg : g = dcell (tgt c r) r
    · exact ⟨r, List.mem_cons_self, hg⟩
    · have h' : 0 < debt c l g u := by
        have h2 : 0 < debt c l g u + tallyAt (dcell (tgt c r) r) () (crd r) g u := h
        rw [tallyAt_apply, if_neg (fun h => hg h.1), Nat.add_zero] at h2; exact h2
      obtain ⟨r', hr', e⟩ := debt_pos c h'
      exact ⟨r', List.mem_cons_of_mem _ hr', e⟩

omit [FloatOps F] in
/-- A wait is admissible while the debts are all of receives at a higher level. -/
theorem mayWait_debt (c : Dev nD) (sm : SemLoc sig) (n : ℕ) (hn : lv ((c : Thread nD τ), sm) () = n) (l : List (Fin 25)) (h : ∀ r ∈ l, n < dlev r) :
    (levAts L lv : sProp 𝕄) ⊢ MayWait (c : Thread nD τ) sm () (debt c l) :=
  MayOwe.of_cut (L := L) (lev := lv) n (fun p hp => by rw [Finset.mem_singleton.mp hp, L_tc]; exact Finset.mem_singleton_self _)
    (fun g u hg => by obtain ⟨r, hr, rfl⟩ := debt_pos c hg; exact Finset.mem_singleton_self _)
    (fun p hp => by rw [Finset.mem_singleton.mp hp]; exact le_of_eq hn)
    (fun g u hg => by obtain ⟨r, hr, rfl⟩ := debt_pos c hg; exact h r hr)

/-- A debt of transfers and of two barrier units is to a receive cell or a barrier. -/
theorem owe_pos (c : Dev nD) (l : List (Fin 25)) {g : GSem nD τ sig} {u : Unit}
    (h : 0 < (debt c l + tallyAt (barCell (nxt c)) () 1 + tallyAt (barCell (prv c)) () 1 : CellTallies nD τ sig Unit) g u) :
    (∃ r ∈ l, g = dcell (tgt c r) r) ∨ ∃ d : Dev nD, g = barCell d := by
  by_contra hn
  rw [not_or] at hn
  rw [Pi.add_apply, Finsupp.add_apply, Pi.add_apply, Finsupp.add_apply, tallyAt_apply, tallyAt_apply,
    if_neg (fun h' => hn.2 ⟨_, h'.1⟩), if_neg (fun h' => hn.2 ⟨_, h'.1⟩)] at h
  exact hn.1 (debt_pos c h)

/-- What a device owes at launch, it owes to a receive cell or a neighbour's barrier. -/
theorem owe₀_pos (c : Dev nD) {g : GSem nD τ sig} {u : Unit} (h : 0 < owe₀ c g u) :
    (∃ r ∈ order, g = dcell (tgt c r) r) ∨ ∃ d : Dev nD, g = barCell d := owe_pos c order h

omit [FloatOps F] in
/-- The pipeline's own wait, on its staging semaphore: admissible at launch debts, and at none. -/
theorem mayWait_stage (c : Dev nD) (O : CellTallies nD τ sig Unit) (hO : O = owe₀ c ∨ O = 0) :
    (levAts L lv : sProp 𝕄) ⊢ MayWait (c : Thread nD τ) (.dma (0 : Fin 25)) () O := by
  rcases hO with rfl | rfl
  · exact MayOwe.of_cut (L := L) (lev := lv) 0 (fun p hp => by rw [Finset.mem_singleton.mp hp, L_tc]; exact Finset.mem_singleton_self _)
      (fun g u hg => by rcases owe₀_pos c hg with ⟨r, hr, rfl⟩ | ⟨d, rfl⟩ <;> exact Finset.mem_singleton_self _)
      (fun p hp => by rw [Finset.mem_singleton.mp hp]; exact le_rfl)
      (fun g u hg => by
        rcases owe₀_pos c hg with ⟨r, hr, rfl⟩ | ⟨d, rfl⟩
        · exact (by decide +kernel : ∀ r ∈ order, 0 < dlev r) r hr
        · exact Nat.one_pos)
  · rw [MayWait_zero]; iintro -; iempintro

end Cert.Gather

end
-- ==== Proof.Step.lean ====
/-
# One step of the body at a time

Each kind of operation the kernel performs, stated once for every device, band and semaphore: starting a local copy,
starting a transfer to a neighbour, waiting on a DMA semaphore, storing a quarter of the block into the result.
-/
module

public import proofs.«01_k».proof.Proof.Sched

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 25 → ℕ)

/-- No loop invariants are needed. -/
abbrev 𝒱₀ : Variants := Variants.none

/-! ## What every device knows of every cell -/

/-- Every cell's invariant and that its round 0 is open. -/
def records : sProp 𝕄 :=
  bigSep Finset.univ fun dj : Dev nD × Fin 25 => iprop(cellInv ER (sched m) (K dj) (kcell dj) ∗ reached ER (kcell dj) 0)

omit [FloatOps F] in
/-- The records may be used again and again. -/
instance records_persistent : BI.Persistent (records (F := F) m K) := by unfold records; infer_instance

omit [FloatOps F] in
/-- The record of one cell; -/
theorem rec_at (dj : Dev nD × Fin 25) : (records m K : sProp 𝕄) ⊢ iprop(cellInv ER (sched m) (K dj) (kcell dj) ∗ reached ER (kcell dj) 0) :=
  bigSep_elim (Finset.mem_univ dj)

omit [FloatOps F] in
/-- of a DMA cell; -/
theorem rec_dma (d : Dev nD) {j : Fin 25} (hj : j ≠ 0) :
    (records m K : sProp 𝕄) ⊢ iprop(cellInv ER (sched m) (K (d, j)) (dcell d j) ∗ reached ER (dcell d j) 0) := by
  rw [← kcell_pos d hj]; exact rec_at m K (d, j)

omit [FloatOps F] in
/-- of a barrier. -/
theorem rec_bar (d : Dev nD) :
    (records m K : sProp 𝕄) ⊢ iprop(cellInv ER (sched m) (K (d, 0)) (barCell d) ∗ reached ER (barCell d) 0) :=
  rec_at m K (d, 0)

/-! ## What a device holds for one transfer -/

/-- The debts of device `c`, whatever it has waited on. -/
def ow (c : Dev nD) (O : CellTallies nD τ sig Unit) : sProp 𝕄 := iprop(∃ W, owes (c : Thread nD τ) O W)

/-- For a transfer to be started: the right to pay its two semaphores, and the device's place at its send semaphore. -/
def sendKit (c : Dev nD) (r : Fin 25) : sProp 𝕄 :=
  iprop(dutyTok ER (dcell c (snd r)) 0 false ∗ dutyTok ER (dcell (tgt c r) r) 0 false ∗ atPos ER (dcell c (snd r)) 0 ∅ 0)

/-- For a local copy to be started. -/
def copyKit (c : Dev nD) (j : Fin 25) : sProp 𝕄 :=
  iprop(dutyTok ER (dcell c j) 0 false ∗ atPos ER (dcell c j) 0 ∅ 0)

/-- For a wait: the credit it will take and the device's place at the semaphore. -/
def waitKit (c : Dev nD) (j : Fin 25) : sProp 𝕄 :=
  iprop(cred (tallyAt (dcell c j) () (crd j)) ∗ atPos ER (dcell c j) 0 ∅ 0)

/-! ## Credits of the kernel's slices -/

/-- A slice of the result brings its transfer's credit. -/
theorem cred_band {r : Fin 25} (hr : r.val < 21) {k : ℕ} (hk : len r = k) (f : Fin 2 → ℕ) (inb) (hs) :
    (oM.slice (Rect.unit (s := S8192x512) f ![k, 512] inb) hs).view.dmaCredit = crd r := by
  unfold crd
  rw [if_neg (by omega)]
  subst hk
  by_cases h : len r = 1024
  · rw [if_pos h]
    have : ∀ k : ℕ, k = 1024 → ∀ inb hs, (oM.slice (Rect.unit (s := S8192x512) f ![k, 512] inb) hs).view.dmaCredit = credL := by
      intro k hk; subst hk; intro _ _; rfl
    exact this _ h inb hs
  · rw [if_neg h]
    have : ∀ k : ℕ, k = 512 → ∀ inb hs, (oM.slice (Rect.unit (s := S8192x512) f ![k, 512] inb) hs).view.dmaCredit = credS := by
      intro k hk; subst hk; intro _ _; rfl
    exact this _ (by unfold len at h ⊢; split <;> simp_all) inb hs

/-- A transfer credits its two semaphores alike. -/
theorem crd_snd (r : Fin 25) (hr : r ∈ order) : crd (snd r) = crd r := by
  have hlow := order_low r hr
  have e1 : crd (snd r) = if len (snd r) = 1024 then credL else credS := if_neg (by show ¬ 21 ≤ r.val - 5; omega)
  have e2 : crd r = if len r = 1024 then credL else credS := if_neg (by omega)
  rw [e1, e2, order_len r hr]

/-- A quarter brings a local copy's. -/
theorem cred_copy {j : Fin 25} (hj : 21 ≤ j.val) (f : Fin 2 → ℕ) (inb) (hs) :
    (vM.slice (Rect.unit (s := S2048x512) f ![512, 512] inb) hs).view.dmaCredit = crd j := by
  unfold crd; rw [if_pos hj]; rfl

/-! ## The steps -/

omit [FloatOps F] in
/-- What a remote transfer hands over: the band, gathered. -/
theorem dpay_band {c : Dev nD} {j : Fin 25} (h : j.val < 21) : (dpay m c j : sProp 𝕄) = band c (start c j) (len j) (shr j) (gath m) := by
  unfold dpay; rw [if_neg (by omega)]

omit [FloatOps F] in
/-- What a local copy hands over: the quarter, and its source back. -/
theorem dpay_copy {c : Dev nD} {j : Fin 25} (h : 21 ≤ j.val) : (dpay m c j : sProp 𝕄) = iprop(xvb c (off j) 512 (xin m c) ∗ xab m c (off j) 512) := by
  unfold dpay; rw [if_pos h]

set_option maxHeartbeats 1000000 in
/-- Starting a transfer to a neighbour: the band of the device's own buffer goes under way, the neighbour's landing
    band with it, and one debt is paid. -/
theorem send_step (c n : Dev nD) {r : Fin 25} (l : List (Fin 25)) (hr : r ∈ order) (hn : n = tgt c r) {f : Fin 2 → ℕ} {k : ℕ}
    (hf : f = ![start c (snd r), 0]) (hk : len r = k) {inb inb' : ∀ x, f x + (![k, 512] : Fin 2 → ℕ) x ≤ S8192x512.size x} {hs hs'}
    {s q : DmaSem sig} (hsq : s = snd r) (hq : r = q)
    {hsc : (oM.slice (Rect.unit (s := S8192x512) f ![k, 512] inb') hs' : Memref sig (Dev.tc n : Thread nD τ).2.kind .vmem _ .bf16).view.ref.isScScratch = false}
    {hsrc hdst hsem} {α : Type} {Q : α → sProp 𝕄} {p : PUnit → Prog (TpuEff nD τ sig (Elt F) Λ₀ .tc) α} :
    iprop(records m K ∗ sendKit c r ∗ band c (start c (snd r)) (len (snd r)) (shr (snd r)) (gath m) ∗ slot (tgt c r) r ∗ ow c (debt c (r :: l)))
      ⊢ iprop(((waitKit c (snd r) ∗ ow c (debt c l)) -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma (oM.slice (Rect.unit (s := S8192x512) f ![k, 512] inb) hs)
                (.remote (Dev.tc n : Thread nD τ) (oM.slice (Rect.unit (s := S8192x512) f ![k, 512] inb') hs') (.dma s) hsc) (.dma q) hsrc hdst hsem) p) Q) := by
  subst hn; subst hsq; subst hq
  have hlow := order_low r hr
  have hcr := cred_band (r := r) (by omega) hk f inb' hs'
  have hcs := crd_snd r hr
  have hsv : (snd r).val = r.val - 5 := rfl
  have hset := (oM_set hf inb hs).trans (show rows 8192 (start c (snd r)) k = rows 8192 (start c (snd r)) (len (snd r)) by rw [order_len r hr, hk])
  have hset' := (oM_set hf inb hs).trans (show rows 8192 (start c (snd r)) k = rows 8192 (start (tgt c r) r) (len r) by rw [order_start c r hr, hk])
  unfold sendKit slot ow waitKit
  iintro ⟨#HR, ⟨Ht1, Ht2, Hat⟩, Hb, ⟨%fd, Hd⟩, ⟨%W, HO⟩⟩ Hk
  ihave #H1 := (rec_dma m K c (j := snd r) (fun h => by have := congrArg Fin.val h; rw [hsv] at this; simp at this; omega)) $$ HR
  ihave #H2 := (rec_dma m K (tgt c r) (j := r) (fun h => by rw [h] at hlow; simp at hlow)) $$ HR
  icases H1 with ⟨#HI1, #HM1⟩
  icases H2 with ⟨#HI2, #HM2⟩
  iapply (Rounds.wp_send_pointsTo 𝒱₀ ER (sched m) (c : Thread nD τ) none (c' := (tgt c r : Thread nD τ)) (κ₁ := K (c, snd r)) (κ₂ := K (tgt c r, r))
    (src := oM.slice (Rect.unit (s := S8192x512) f ![k, 512] inb) hs) (dst := oM.slice (Rect.unit (s := S8192x512) f ![k, 512] inb) hs)
    (r₁ := 0) (r₂ := 0) (d₁ := false) (d₂ := false) (fs := gath m) (fd := fd) (q := shr (snd r))
    (mem_dma m c (snd r)) (mem_dma m (tgt c r) r) () () (crd r) hcr hcs rfl (debt c l) rfl (W := W)
    (by
      rw [payload_dma, dpay_band m (by omega), hset]; exact BI.Entails.refl _)
    (by
      have e : (((tgt c r : Thread nD τ).loc cc0_stg0_0) ↦[_]{fullShare} _ : sProp 𝕄) = _ :=
        pointsTo_congr (ℓ := (tgt c r : Thread nD τ).loc cc0_stg0_0) (q := fullShare)
          (landed (F := F) (oM.slice (Rect.unit (s := S8192x512) f ![k, 512] inb) hs).view fd (gath m))
      rw [payload_dma, dpay_band m (by omega)]
      refine (Entails.of_eq e).trans ?_
      rw [hset',
        show shr r = fullShare from (by decide +kernel : ∀ r ∈ order, shr r = fullShare) r hr]; exact BI.Entails.refl _)) $$ [Ht1 Ht2 Hb Hd HO]
  · isplitr; · iexact HI1
    isplitr; · iexact HI2
    isplitl [Hb]; · unfold band; rw [hset]; iexact Hb
    isplitl [Hd]; · unfold band; rw [hset']; iexact Hd
    isplitl [HO]; · iexact HO
    isplitl [Ht1]; · iexact Ht1
    isplitr; · iexact HM1
    isplitl [Ht2]; · iexact Ht2
    iexact HM2
  iintro ⟨Hc, HO⟩
  iapply Hk
  isplitl [Hc Hat]
  · rw [hcs]
    isplitl [Hc] <;> iassumption
  · iexists W; iexact HO

set_option maxHeartbeats 1000000 in
/-- Waiting on a DMA semaphore: what its round hands over, and the semaphore back at zero. -/
theorem wait_step (c : Dev nD) {j : Fin 25} (hj : j ≠ 0) (l : List (Fin 25)) (hl : ∀ r ∈ l, dlev j < dlev r) {q : DmaSem sig} (hq : q = j)
    {sp sp' : Space} {s s' : Shape} {e e' : EltTy} {v : Memref sig .tc sp s e} {w : Memref sig .tc sp' s' e'} (hw : w.view.dmaCredit = crd j)
    {hsrc hdst} {α : Type} {Q : α → sProp 𝕄} {p : PUnit → Prog (TpuEff nD τ sig (Elt F) Λ₀ .tc) α} :
    iprop(records m K ∗ levAts L lv ∗ waitKit c j ∗ ow c (debt c l))
      ⊢ iprop(((dpay m c j ∗ semVal (dcell c j) 0 ∗ ow c (debt c l)) -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 q v w hsrc hdst) p) Q) := by
  subst hq
  unfold waitKit ow
  iintro ⟨#HR, #Hlev, ⟨Hc, Hat⟩, ⟨%W, HO⟩⟩ Hk
  ihave #H1 := (rec_dma m K c hj) $$ HR
  icases H1 with ⟨#HI, #HM⟩
  iapply (Rounds.wp_wait_rest_token 𝒱₀ ER (sched m) (c : Thread nD τ) none (κ := K (c, q)) (sm := .dma q)
      (wpE_waitDma2_eq 𝒱₀ (c : Thread nD τ) none Set.univ) (Set.mem_univ _) () (O := debt c l) (W := W) (R := 0) (m := 0) (T := ∅)
      (by rw [Nat.zero_add]; exact hw.trans (expect_dma m c q).symm)) $$ [Hc HO Hat]
  · isplitr; · iexact HI
    isplitl [Hc]; · rw [hw]; iexact Hc
    isplitl [HO]; · iexact HO
    isplitr; · iapply (mayWait_debt c (.dma q) (dlev q) rfl l hl); iexact Hlev
    iexact Hat
  iintro ⟨HO, Hat, -, Hpay⟩
  ihave Hp := (Entails.of_eq (rest_dma m c q)) $$ Hpay
  imod (Rounds.cell_close ER (sched m) (Set.mem_univ (K (c, q))) (fun h => h) (R := 0 + 1) (duties_later m (dcell c q))) $$ [Hat] with Hz
  · isplitr; · iexact HI
    iexact Hat
  iapply Hk
  isplitl [Hp]; · iexact Hp
  isplitl [Hz]; · iexact Hz
  iexists _; iexact HO

set_option maxHeartbeats 1000000 in
/-- Starting the local copy of a quarter of the block. -/
theorem copy_step (c : Dev nD) {j : Fin 25} (hj : 21 ≤ j.val) {f : Fin 2 → ℕ} (hf : f = ![off j, 0])
    {inb inb' : ∀ x, f x + S512x512.size x ≤ S2048x512.size x} {hs hs'} {q : DmaSem sig} (hq : q = j)
    {hsrc hdst hsem} {α : Type} {Q : α → sProp 𝕄} {p : PUnit → Prog (TpuEff nD τ sig (Elt F) Λ₀ .tc) α}
    (fd : (cc0_scratch0 : Ref sig .tc).ty.Contents (Elt F)) :
    iprop(records m K ∗ copyKit c j ∗ xab m c (off j) 512 ∗ xvb c (off j) 512 fd)
      ⊢ iprop((waitKit c j -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma (aM.slice (Rect.unit (s := S2048x512) f S512x512.size inb) hs)
                (.here (vM.slice (Rect.unit (s := S2048x512) f S512x512.size inb') hs')) (.dma q) hsrc hdst hsem) p) Q) := by
  subst hq
  have hcr := cred_copy hj f inb' hs'
  have hset := aM_set hf inb hs
  have hset' := vM_set hf inb' hs'
  unfold copyKit waitKit
  iintro ⟨#HR, ⟨Ht, Hat⟩, Ha, Hv⟩ Hk
  ihave #H1 := (rec_dma m K c (j := q) (fun h => by rw [h] at hj; simp at hj)) $$ HR
  icases H1 with ⟨#HI, #HM⟩
  iapply (Rounds.wp_copy_pointsTo 𝒱₀ ER (sched m) (c : Thread nD τ) none (κ := K (c, q))
    (src := aM.slice (Rect.unit (s := S2048x512) f S512x512.size inb) hs) (dst := vM.slice (Rect.unit (s := S2048x512) f S512x512.size inb') hs')
    (r := 0) (d := false) (fs := xin m c) (fd := fd) (q := fullShare)
    (mem_dma m c q) () (crd q) hcr rfl
    (by
      rw [payload_dma, dpay_copy m hj, pointsTo_congr (copied _ _ _ _ fd (xin m c))]
      unfold xvb xab
      erw [hset])) $$ [Ht Ha Hv]
  · isplitr; · iexact HI
    isplitl [Ha]; · unfold xab; erw [hset]; iexact Ha
    isplitl [Hv]; · unfold xvb; erw [hset']; iexact Hv
    isplitl [Ht]; · iexact Ht
    iexact HM
  iintro Hc
  iapply Hk
  isplitl [Hc] <;> iassumption

set_option maxHeartbeats 1000000 in
/-- Storing a quarter of the block into the result: it then holds the gathered array there. -/
theorem convert_step (c : Dev nD) {j : Fin 25} (hj : j ∈ quarters) {f g : Fin 2 → ℕ} (hf : f = ![2048 * c.val + off j, 0]) (hg : g = ![off j, 0])
    {inb : ∀ x, f x + S512x512.size x ≤ S8192x512.size x} {inb' : ∀ x, g x + S512x512.size x ≤ S2048x512.size x}
    {hl hl' hx hm} {α : Type} {Q : α → sProp 𝕄} {p : PUnit → Prog (TpuEff nD τ sig (Elt F) Λ₀ .tc) α}
    (fd : (cc0_stg0_0 : Ref sig .tc).ty.Contents (Elt F)) :
    iprop(xvb c (off j) 512 (xin m c) ∗ band c (2048 * c.val + off j) 512 fullShare fd)
      ⊢ iprop(((xvb c (off j) 512 (xin m c) ∗ band c (2048 * c.val + off j) 512 fullShare (gath m))
            -∗ wp frame (wpE (defs₀ (F := F)) 𝒱₀ (c : Thread nD τ) none) Set.univ (p ⟨⟩) Q)
          -∗ wp frame (wpE (defs₀ (F := F)) 𝒱₀ (c : Thread nD τ) none) Set.univ
              (.op (.load vM (Rect.unit (s := S2048x512) g S512x512.size inb').toLoadRect hl) fun v =>
                .op (.load oM (Rect.unit (s := S8192x512) f S512x512.size inb).toLoadRect hl') fun _ =>
                  .op (.store oM (Rect.unit (s := S8192x512) f S512x512.size inb) v Finset.univ hx hm) p) Q) := by
  have hset : (oM.access (Rect.unit (s := S8192x512) f S512x512.size inb)).set = rows 8192 (2048 * c.val + off j) 512 :=
    (View.set_slice_whole _ _).trans (rect_rows hf inb)
  have hset' : (vM.access (Rect.unit (s := S2048x512) g S512x512.size inb')).set = rows 2048 (off j) 512 :=
    (View.set_slice_whole _ _).trans (rect_rows hg inb')
  unfold xvb band
  iintro ⟨Hv, Ho⟩ Hk
  iapply (wp_load_rect 𝒱₀ (c : Thread nD τ) none Set.univ (m := vM) (r := Rect.unit (s := S2048x512) g S512x512.size inb') (S := rows 2048 (off j) 512) (by rw [hset'])) $$ Hv; iintro Hv
  iapply (wp_load_rect 𝒱₀ (c : Thread nD τ) none Set.univ (m := oM) (r := Rect.unit (s := S8192x512) f S512x512.size inb) (S := rows 8192 (2048 * c.val + off j) 512) (by rw [hset])) $$ Ho; iintro Ho
  iapply (wp_store 𝒱₀ (c : Thread nD τ) none Set.univ (m := oM) (r := Rect.unit (s := S8192x512) f S512x512.size inb) (Mk := Finset.univ)
    (S := rows 8192 (2048 * c.val + off j) 512) (by rw [← hset]; exact View.setOn_subset_set _ _)) $$ Ho; iintro Ho
  iapply Hk
  isplitl [Hv]; · iexact Hv
  have e : (((c : Thread nD τ).loc cc0_stg0_0) ↦[_]{fullShare} _ : sProp 𝕄) = _ :=
    pointsTo_congr (ℓ := (c : Thread nD τ).loc cc0_stg0_0) (q := fullShare) (converted m c hj hf hg inb inb' fd)
  rw [hset] at e
  rw [← e]; iexact Ho

end Cert.Gather

end
-- ==== Proof.Body.lean ====
/-
# The body of the kernel

The kernel's body on one device, run operation by operation from what the launch deals the device to the gathered
array in its result buffer and every semaphore back at zero.
-/
module

public import proofs.«01_k».proof.Proof.Step

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 25 → ℕ)

/-- The memory at launch: every semaphore counter at zero. -/
def s₀ : MemSt nD τ sig (Elt F) := ⟨m, fun _ => 0, ρ⟩

/-! ## The kernel's addresses in closed form -/

/-- The device the first barrier signal names: the one before. -/
theorem dev1_eq (c : Dev nD) : (⟨k0_dev1 c, k0_dev1_lt c⟩ : Dev nD) = prv c := by revert c; decide +kernel
/-- The second: the one after. -/
theorem dev2_eq (c : Dev nD) : (⟨k0_dev2 c, k0_dev2_lt c⟩ : Dev nD) = nxt c := by revert c; decide +kernel
/-- The device that the transfer completing on semaphore 6 is sent to. -/
theorem dev3_eq (c : Dev nD) : (⟨k0_dev3 c, k0_dev3_lt c⟩ : Dev nD) = tgt c 6 := by revert c; decide +kernel
/-- The device that the transfer completing on semaphore 16 is sent to. -/
theorem dev4_eq (c : Dev nD) : (⟨k0_dev4 c, k0_dev4_lt c⟩ : Dev nD) = tgt c 16 := by revert c; decide +kernel
/-- The device that the transfer completing on semaphore 7 is sent to. -/
theorem dev5_eq (c : Dev nD) : (⟨k0_dev5 c, k0_dev5_lt c⟩ : Dev nD) = tgt c 7 := by revert c; decide +kernel
/-- The device that the transfer completing on semaphore 18 is sent to. -/
theorem dev6_eq (c : Dev nD) : (⟨k0_dev6 c, k0_dev6_lt c⟩ : Dev nD) = tgt c 18 := by revert c; decide +kernel
/-- The device that the transfer completing on semaphore 17 is sent to. -/
theorem dev7_eq (c : Dev nD) : (⟨k0_dev7 c, k0_dev7_lt c⟩ : Dev nD) = tgt c 17 := by revert c; decide +kernel
/-- The device that the transfer completing on semaphore 8 is sent to. -/
theorem dev8_eq (c : Dev nD) : (⟨k0_dev8 c, k0_dev8_lt c⟩ : Dev nD) = tgt c 8 := by revert c; decide +kernel
/-- The device that the transfer completing on semaphore 9 is sent to. -/
theorem dev9_eq (c : Dev nD) : (⟨k0_dev9 c, k0_dev9_lt c⟩ : Dev nD) = tgt c 9 := by revert c; decide +kernel
/-- The device that the transfer completing on semaphore 19 is sent to. -/
theorem dev10_eq (c : Dev nD) : (⟨k0_dev10 c, k0_dev10_lt c⟩ : Dev nD) = tgt c 19 := by revert c; decide +kernel
/-- The device that the transfer completing on semaphore 10 is sent to. -/
theorem dev11_eq (c : Dev nD) : (⟨k0_dev11 c, k0_dev11_lt c⟩ : Dev nD) = tgt c 10 := by revert c; decide +kernel
/-- The device that the transfer completing on semaphore 20 is sent to. -/
theorem dev12_eq (c : Dev nD) : (⟨k0_dev12 c, k0_dev12_lt c⟩ : Dev nD) = tgt c 20 := by revert c; decide +kernel
/-- Where the half sent on to the right begins. -/
theorem off3_eq : ∀ c : Dev nD, k0_off3 c = ![start c 5, 0] := by decide +kernel
/-- Where the half sent on to the left begins. -/
theorem off4_eq : ∀ c : Dev nD, k0_off4 c = ![start c 15, 0] := by decide +kernel

/-- The receive semaphores. -/
def recvs : Finset (Fin 25) := {6, 7, 8, 9, 10, 16, 17, 18, 19, 20}

omit [FloatOps F] in
/-- One thing per receive, one by one. -/
theorem sep_recvs (Φ : Fin 25 → sProp 𝕄) : bigSep recvs Φ = iprop(Φ 6 ∗ Φ 7 ∗ Φ 8 ∗ Φ 9 ∗ Φ 10 ∗ Φ 16 ∗ Φ 17 ∗ Φ 18 ∗ Φ 19 ∗ Φ 20) :=
  bigSep_eq_bigSepL_of_eq [6, 7, 8, 9, 10, 16, 17, 18, 19, 20] (by decide) (by decide) Φ
omit [FloatOps F] in
/-- One per quarter, one by one. -/
theorem sep_quarters (Φ : Fin 25 → sProp 𝕄) : bigSep quarters Φ = iprop(Φ 21 ∗ Φ 22 ∗ Φ 23 ∗ Φ 24) :=
  bigSep_eq_bigSepL_of_eq [21, 22, 23, 24] (by decide) (by decide) Φ
omit [FloatOps F] in
/-- One per piece of the result, one by one. -/
theorem sep_pieces (Φ : Fin 25 → sProp 𝕄) : bigSep pieces Φ
    = iprop(Φ 1 ∗ Φ 2 ∗ Φ 3 ∗ Φ 4 ∗ Φ 6 ∗ Φ 7 ∗ Φ 8 ∗ Φ 9 ∗ Φ 10 ∗ Φ 16 ∗ Φ 17 ∗ Φ 18 ∗ Φ 19 ∗ Φ 20) :=
  bigSep_eq_bigSepL_of_eq [1, 2, 3, 4, 6, 7, 8, 9, 10, 16, 17, 18, 19, 20] (by decide) (by decide) Φ
/-- Every index. -/
abbrev allIx : List (Fin 25) := [0, 1, 2, 3, 4, 5, 6, 7, 8, 9, 10, 11, 12, 13, 14, 15, 16, 17, 18, 19, 20, 21, 22, 23, 24]
omit [FloatOps F] in
/-- One per semaphore, one by one. -/
theorem sep_all (Φ : Fin 25 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24) :=
  bigSep_univ_eq_bigSepL allIx (by decide) (by decide) Φ

/-! ## What a device starts from and ends with -/

/-- The device's part of the rounds library's state: its places at its cells and the right to pay what it pays. -/
def linear (c : Dev nD) : sProp 𝕄 :=
  iprop(atPos ER (barCell c) 0 ∅ 0 ∗ dutyTok ER (barCell (prv c)) 0 true ∗ dutyTok ER (barCell (nxt c)) 0 false
    ∗ bigSep recvs (sendKit c) ∗ bigSep quarters (copyKit c) ∗ bigSep recvs fun r => atPos ER (dcell c r) 0 ∅ 0)

/-- That, with what everyone knows of every cell. -/
def ghost (c : Dev nD) : sProp 𝕄 := iprop(records m K ∗ linear c)

/-- The credits a device will take: two units at its barrier, each receive's. -/
def credits (c : Dev nD) : sProp 𝕄 :=
  iprop(cred (tallyAt (barCell c) () 2) ∗ bigSep recvs fun r => cred (tallyAt (dcell c r) () (crd r)))

/-- What the body starts from besides the buffers. -/
def begin₀ (c : Dev nD) : sProp 𝕄 := iprop((∃ K, ghost m K c) ∗ credits c ∗ levAts L lv ∗ ((c : Thread nD τ).loc main_arg0) ↦{fullShare} xin m c)

/-- Before the body. -/
def Φ₀ (c : Dev nD) : sProp 𝕄 :=
  iprop(begin₀ m c ∗ ∃ f : (cc0_scratch0 : Ref sig .tc).ty.Contents (Elt F), ((c : Thread nD τ).loc cc0_scratch0) ↦{fullShare} f)

/-- After the body: the argument as it was, and every semaphore at zero. -/
def Φ₁ (c : Dev nD) : sProp 𝕄 :=
  iprop((∃ f : (cc0_scratch0 : Ref sig .tc).ty.Contents (Elt F), ((c : Thread nD τ).loc cc0_scratch0) ↦{fullShare} f)
    ∗ (((c : Thread nD τ).loc main_arg0) ↦{fullShare} xin m c) ∗ bigSep Finset.univ fun j : Fin 25 => semVal (kcell (c, j)) 0)

/-- The pipeline's data: the result buffer ends at the gathered array. -/
def dats (_ : Fin 1) (c : Dev nD) : Dat τ (Elt F) Unit ℕ UU ℕ cfg0 c where
  A w := m ((cfg0.win w).arr.view.loc (c : Thread nD τ))
  after w _ := match w with
    | ⟨0, _⟩ => gath m
  Φ t := match t with
    | ⟨0, _⟩ => Φ₀ m c
    | ⟨_ + 1, _⟩ => Φ₁ m c
  q _ := fullShare
  owed t := match t with
    | ⟨0, _⟩ => owe₀ c
    | ⟨_ + 1, _⟩ => 0

omit [FloatOps F] in
/-- Two bands of 512 rows, one after the other, are one of 1024. -/
theorem join (c : Dev nD) (a : ℕ) (q f) : iprop(band c a 512 q f ∗ band c (a + 512) 512 q f) ⊢ (band c a 1024 q f : sProp 𝕄) :=
  Entails.of_eq (band_two c a q f).symm
omit [FloatOps F] in
/-- The two halves of a band. -/
theorem halves (c : Dev nD) (a n : ℕ) (f) : iprop(band c a n fullShare.left f ∗ band c a n fullShare.right f) ⊢ (band c a n fullShare f : sProp 𝕄) :=
  Entails.of_eq (band_half c a n f).symm

/-! ## The body -/

/-- The result buffer, held whole at some contents. -/
def bufO (c : Dev nD) : sProp 𝕄 := iprop(∃ f : (cc0_stg0_0 : Ref sig .tc).ty.Contents (Elt F), ((c : Thread nD τ).loc cc0_stg0_0) ↦{fullShare} f)

set_option maxHeartbeats 8000000 in
set_option maxRecDepth 65536 in
/-- The body, operation by operation. -/
theorem sound_body (c : Dev nD) (Kt : PUnit → sProp 𝕄) :
    iprop((ghost m K c ∗ credits c ∗ levAts L lv ∗ (((c : Thread nD τ).loc main_arg0) ↦{fullShare} xin m c)
        ∗ (∃ f : (cc0_scratch0 : Ref sig .tc).ty.Contents (Elt F), ((c : Thread nD τ).loc cc0_scratch0) ↦{fullShare} f) ∗ ow c (owe₀ c) ∗ bufO c)
      ∗ ((Φ₁ m c ∗ ow c 0 ∗ (((c : Thread nD τ).loc cc0_stg0_0) ↦{fullShare} gath m)) -∗ Kt ⟨⟩))
      ⊢ wp frame (wpE (defs₀ (F := F)) 𝒱₀ (c : Thread nD τ) none) Set.univ
          (cc0_body aM (Memref.isWhole_whole _) oM (Memref.isWhole_whole _) vM (Memref.isWhole_whole _) cc0_scratch1 cc0_scratch2 cc0_scratch3 cc0_scratch4 cc0_scratch5) Kt := by
  simp only [cc0_body_eq_skeleton, k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton,
    cc0_body_skel, k0_part1_skel, k0_part2_skel, k0_part3_skel, k0_part4_skel, k0_part5_skel, k0_part6_skel, k0_part7_skel, k0_part8_skel, k0_part9_skel,
    semSignalWord, semWaitWord, Prog.lift, Prog.bind_op, Prog.bind_ret, Prog.pure_eq_ret, wp_deviceId, dev1_eq c, dev2_eq c]
  unfold ghost credits linear bufO
  simp only [sep_recvs, sep_quarters]
  iintro ⟨⟨⟨#HR, HaB, HtL, HtR, ⟨Hs6, Hs7, Hs8, Hs9, Hs10, Hs16, Hs17, Hs18, Hs19, Hs20⟩, ⟨Hk21, Hk22, Hk23, Hk24⟩,
      ⟨Ha6, Ha7, Ha8, Ha9, Ha10, Ha16, Ha17, Ha18, Ha19, Ha20⟩⟩,
    ⟨HcB, ⟨Hc6, Hc7, Hc8, Hc9, Hc10, Hc16, Hc17, Hc18, Hc19, Hc20⟩⟩, #Hlev, Harg, ⟨%fv, Hxv⟩, HO, ⟨%fo, Hout⟩⟩, Hk⟩
  ihave Hxv' := (Entails.of_eq ((xv_quarters c fv).trans (sep_quarters _))) $$ Hxv
  icases Hxv' with ⟨Hv21, Hv22, Hv23, Hv24⟩
  ihave Harg' := (Entails.of_eq ((xa_quarters m c).trans (sep_quarters _))) $$ Harg
  icases Harg' with ⟨Hx21, Hx22, Hx23, Hx24⟩
  ihave Hout' := (Entails.of_eq ((whole_pieces c fo).trans (sep_pieces _))) $$ Hout
  icases Hout' with ⟨Hq1, Hq2, Hq3, Hq4, Hp6, Hp7, Hp8, Hp9, Hp10, Hp16, Hp17, Hp18, Hp19, Hp20⟩
  -- the four local copies
  iapply (copy_step m K c (j := 21) (by decide) (f := ![0, 0]) rfl (inb := inb_S2048x512_S512x512_0_0) (inb' := inb_S2048x512_S512x512_0_0) (q := 21) rfl fv) $$ [Hk21 Hx21 Hv21]
  · isplitr; · iexact HR
    isplitl [Hk21]; · iexact Hk21
    isplitl [Hx21] <;> iassumption
  iintro Hw21
  iapply (copy_step m K c (j := 22) (by decide) (f := ![1024, 0]) rfl (inb := inb_S2048x512_S512x512_1024_0) (inb' := inb_S2048x512_S512x512_1024_0) (q := 22) rfl fv) $$ [Hk22 Hx22 Hv22]
  · isplitr; · iexact HR
    isplitl [Hk22]; · iexact Hk22
    isplitl [Hx22] <;> iassumption
  iintro Hw22
  iapply (copy_step m K c (j := 23) (by decide) (f := ![512, 0]) rfl (inb := inb_S2048x512_S512x512_512_0) (inb' := inb_S2048x512_S512x512_512_0) (q := 23) rfl fv) $$ [Hk23 Hx23 Hv23]
  · isplitr; · iexact HR
    isplitl [Hk23]; · iexact Hk23
    isplitl [Hx23] <;> iassumption
  iintro Hw23
  iapply (copy_step m K c (j := 24) (by decide) (f := ![1536, 0]) rfl (inb := inb_S2048x512_S512x512_1536_0) (inb' := inb_S2048x512_S512x512_1536_0) (q := 24) rfl fv) $$ [Hk24 Hx24 Hv24]
  · isplitr; · iexact HR
    isplitl [Hk24]; · iexact Hk24
    isplitl [Hx24] <;> iassumption
  iintro Hw24
  -- the handshake: the left neighbour, the right neighbour, then both of theirs
  unfold ow
  icases HO with ⟨%W, HO⟩
  ihave #HBL := (rec_bar m K (prv c)) $$ HR
  icases HBL with ⟨#HIL, #HML⟩
  ihave #HBR := (rec_bar m K (nxt c)) $$ HR
  icases HBR with ⟨#HIR, #HMR⟩
  ihave #HBC := (rec_bar m K c) $$ HR
  icases HBC with ⟨#HIC, #HMC⟩
  iapply (Rounds.wp_signal 𝒱₀ ER (sched m) (c : Thread nD τ) none (dst := (prv c : Thread nD τ)) (κ := K (prv c, 0))
      (d := true) (mem_bar m (prv c) true) ((amount_bar m (prv c) true).trans (by decide)) () (owe₁ c) rfl)
    $$ [HO HtL Hp6 Hp7 Hp8 Hp9 Hp10]
  · isplitr; · iexact HIL
    isplitl [HO]; · iexact HO
    isplitl [HtL]; · iexact HtL
    isplitl [Hp6 Hp7 Hp8 Hp9 Hp10]
    · rw [payload_bar_true, nxt_prv]; unfold lendR slot
      isplitl [Hp6]; · iexists fo; iexact Hp6
      isplitl [Hp7]; · iexists fo; iexact Hp7
      isplitl [Hp8]; · iexists fo; iexact Hp8
      isplitl [Hp9]; · iexists fo; iexact Hp9
      iexists fo; iexact Hp10
    · iexact HML
  iintro HO
  unfold owe₁
  iapply (Rounds.wp_signal 𝒱₀ ER (sched m) (c : Thread nD τ) none (dst := (nxt c : Thread nD τ)) (κ := K (nxt c, 0))
      (d := false) (mem_bar m (nxt c) false) ((amount_bar m (nxt c) false).trans (by decide)) () (debt c order) rfl)
    $$ [HO HtR Hp16 Hp17 Hp18 Hp19 Hp20]
  · isplitr; · iexact HIR
    isplitl [HO]; · iexact HO
    isplitl [HtR]; · iexact HtR
    isplitl [Hp16 Hp17 Hp18 Hp19 Hp20]
    · rw [payload_bar_false, prv_nxt]; unfold lendL slot
      isplitl [Hp16]; · iexists fo; iexact Hp16
      isplitl [Hp17]; · iexists fo; iexact Hp17
      isplitl [Hp18]; · iexists fo; iexact Hp18
      isplitl [Hp19]; · iexists fo; iexact Hp19
      iexists fo; iexact Hp20
    · iexact HMR
  iintro HO
  iapply (Rounds.wp_wait_rest_token 𝒱₀ ER (sched m) (c : Thread nD τ) none (κ := K (c, 0))
      (wpE_semWait_eq 𝒱₀ (c : Thread nD τ) none Set.univ) (Set.mem_univ _) () (O := debt c order) (W := W) (R := 0) (m := 0) (T := ∅)
      (by rw [expect_bar]; decide)) $$ [HcB HO HaB]
  · isplitr; · iexact HIC
    isplitl [HcB]; · iexact HcB
    isplitl [HO]; · iexact HO
    isplitr; · iapply (mayWait_debt c (.reg barS) 1 rfl order (by decide)); iexact Hlev
    iexact HaB
  iintro ⟨HO, HaB, -, Hpay⟩
  ihave Hp := (Entails.of_eq (rest_bar m c)) $$ Hpay
  unfold lendL lendR
  icases Hp with ⟨⟨Ht16, Ht17, Ht18, Ht19, Ht20⟩, ⟨Ht6, Ht7, Ht8, Ht9, Ht10⟩⟩
  imod (Rounds.cell_close ER (sched m) (Set.mem_univ (K (c, 0))) (fun h => h) (R := 0 + 1) (duties_later m (barCell c))) $$ [HaB] with Hz0
  · isplitr; · iexact HIC
    iexact HaB
  ihave HO := (show owes (c : Thread nD τ) (debt c order) (insert (SemLoc.reg barS, ()) W) ⊢ (ow c (debt c order) : sProp 𝕄) from by
    unfold ow; iintro H; iexists _; iexact H) $$ HO
  -- the first hop
  iapply (wait_step m K c (j := 21) (by decide) [6, 16, 7, 18, 17, 8, 9, 19, 10, 20] (by decide) (q := 21) rfl (cred_copy (j := 21) (by decide) _ _ _)) $$ [Hw21 HO]
  · isplitr; · iexact HR
    isplitr; · iexact Hlev
    isplitl [Hw21]; · iexact Hw21
    iexact HO
  iintro ⟨Hd21, Hz21, HO⟩
  ihave Hd21 := (Entails.of_eq (dpay_copy m (c := c) (j := 21) (by decide))) $$ Hd21
  icases Hd21 with ⟨Hv21, Hx21⟩
  iapply (convert_step m c (j := 21) (by decide) (f := k0_off1 c 0#32) (g := ![0, 0]) (k0_off1_eq c 0) rfl (inb := k0_off1_inb c 0) (inb' := inb_S2048x512_S512x512_0_0) fo) $$ [Hv21 Hq1]
  · isplitl [Hv21]; · iexact Hv21
    iexact Hq1
  iintro ⟨Hv21, Hq1⟩
  ihave Hq1 := (Entails.of_eq (band_half c (2048 * c.val + off 21) 512 (gath m))) $$ Hq1
  icases Hq1 with ⟨Hl1, Hr1⟩
  iapply (send_step m K c _ (r := 6) [16, 7, 18, 17, 8, 9, 19, 10, 20] (by decide) (dev3_eq c) (f := k0_off2 c 0#32) (k := 512) (k0_off2_eq c 0) rfl (inb := k0_off2_inb c 0) (inb' := k0_off2_inb c 0) (s := 1) rfl (q := 6) rfl) $$ [Hs6 Hl1 Ht6 HO]
  · isplitr; · iexact HR
    isplitl [Hs6]; · iexact Hs6
    isplitl [Hl1]; · iexact Hl1
    isplitl [Ht6]; · iexact Ht6
    iexact HO
  iintro ⟨Hw1, HO⟩
  iapply (wait_step m K c (j := 22) (by decide) [16, 7, 18, 17, 8, 9, 19, 10, 20] (by decide) (q := 22) rfl (cred_copy (j := 22) (by decide) _ _ _)) $$ [Hw22 HO]
  · isplitr; · iexact HR
    isplitr; · iexact Hlev
    isplitl [Hw22]; · iexact Hw22
    iexact HO
  iintro ⟨Hd22, Hz22, HO⟩
  ihave Hd22 := (Entails.of_eq (dpay_copy m (c := c) (j := 22) (by decide))) $$ Hd22
  icases Hd22 with ⟨Hv22, Hx22⟩
  iapply (convert_step m c (j := 22) (by decide) (f := k0_off1 c 1024#32) (g := ![1024, 0]) (k0_off1_eq c 2) rfl (inb := k0_off1_inb c 2) (inb' := inb_S2048x512_S512x512_1024_0) fo) $$ [Hv22 Hq3]
  · isplitl [Hv22]; · iexact Hv22
    iexact Hq3
  iintro ⟨Hv22, Hq3⟩
  ihave Hq3 := (Entails.of_eq (band_half c (2048 * c.val + off 22) 512 (gath m))) $$ Hq3
  icases Hq3 with ⟨Hl3, Hr3⟩
  iapply (send_step m K c _ (r := 16) [7, 18, 17, 8, 9, 19, 10, 20] (by decide) (dev4_eq c) (f := k0_off2 c 1024#32) (k := 512) (k0_off2_eq c 2) rfl (inb := k0_off2_inb c 2) (inb' := k0_off2_inb c 2) (s := 11) rfl (q := 16) rfl) $$ [Hs16 Hr3 Ht16 HO]
  · isplitr; · iexact HR
    isplitl [Hs16]; · iexact Hs16
    isplitl [Hr3]; · iexact Hr3
    isplitl [Ht16]; · iexact Ht16
    iexact HO
  iintro ⟨Hw11, HO⟩
  iapply (wait_step m K c (j := 23) (by decide) [7, 18, 17, 8, 9, 19, 10, 20] (by decide) (q := 23) rfl (cred_copy (j := 23) (by decide) _ _ _)) $$ [Hw23 HO]
  · isplitr; · iexact HR
    isplitr; · iexact Hlev
    isplitl [Hw23]; · iexact Hw23
    iexact HO
  iintro ⟨Hd23, Hz23, HO⟩
  ihave Hd23 := (Entails.of_eq (dpay_copy m (c := c) (j := 23) (by decide))) $$ Hd23
  icases Hd23 with ⟨Hv23, Hx23⟩
  iapply (convert_step m c (j := 23) (by decide) (f := k0_off1 c 512#32) (g := ![512, 0]) (k0_off1_eq c 1) rfl (inb := k0_off1_inb c 1) (inb' := inb_S2048x512_S512x512_512_0) fo) $$ [Hv23 Hq2]
  · isplitl [Hv23]; · iexact Hv23
    iexact Hq2
  iintro ⟨Hv23, Hq2⟩
  ihave Hq2 := (Entails.of_eq (band_half c (2048 * c.val + off 23) 512 (gath m))) $$ Hq2
  icases Hq2 with ⟨Hl2, Hr2⟩
  iapply (send_step m K c _ (r := 7) [18, 17, 8, 9, 19, 10, 20] (by decide) (dev5_eq c) (f := k0_off2 c 512#32) (k := 512) (k0_off2_eq c 1) rfl (inb := k0_off2_inb c 1) (inb' := k0_off2_inb c 1) (s := 2) rfl (q := 7) rfl) $$ [Hs7 Hl2 Ht7 HO]
  · isplitr; · iexact HR
    isplitl [Hs7]; · iexact Hs7
    isplitl [Hl2]; · iexact Hl2
    isplitl [Ht7]; · iexact Ht7
    iexact HO
  iintro ⟨Hw2, HO⟩
  iapply (send_step m K c _ (r := 18) [17, 8, 9, 19, 10, 20] (by decide) (dev6_eq c) (f := k0_off2 c 0#32) (k := 512) (k0_off2_eq c 0) rfl (inb := k0_off2_inb c 0) (inb' := k0_off2_inb c 0) (s := 13) rfl (q := 18) rfl) $$ [Hs18 Hr1 Ht18 HO]
  · isplitr; · iexact HR
    isplitl [Hs18]; · iexact Hs18
    isplitl [Hr1]; · iexact Hr1
    isplitl [Ht18]; · iexact Ht18
    iexact HO
  iintro ⟨Hw13, HO⟩
  iapply (wait_step m K c (j := 24) (by decide) [17, 8, 9, 19, 10, 20] (by decide) (q := 24) rfl (cred_copy (j := 24) (by decide) _ _ _)) $$ [Hw24 HO]
  · isplitr; · iexact HR
    isplitr; · iexact Hlev
    isplitl [Hw24]; · iexact Hw24
    iexact HO
  iintro ⟨Hd24, Hz24, HO⟩
  ihave Hd24 := (Entails.of_eq (dpay_copy m (c := c) (j := 24) (by decide))) $$ Hd24
  icases Hd24 with ⟨Hv24, Hx24⟩
  iapply (convert_step m c (j := 24) (by decide) (f := k0_off1 c 1536#32) (g := ![1536, 0]) (k0_off1_eq c 3) rfl (inb := k0_off1_inb c 3) (inb' := inb_S2048x512_S512x512_1536_0) fo) $$ [Hv24 Hq4]
  · isplitl [Hv24]; · iexact Hv24
    iexact Hq4
  iintro ⟨Hv24, Hq4⟩
  ihave Hq4 := (Entails.of_eq (band_half c (2048 * c.val + off 24) 512 (gath m))) $$ Hq4
  icases Hq4 with ⟨Hl4, Hr4⟩
  iapply (send_step m K c _ (r := 17) [8, 9, 19, 10, 20] (by decide) (dev7_eq c) (f := k0_off2 c 1536#32) (k := 512) (k0_off2_eq c 3) rfl (inb := k0_off2_inb c 3) (inb' := k0_off2_inb c 3) (s := 12) rfl (q := 17) rfl) $$ [Hs17 Hr4 Ht17 HO]
  · isplitr; · iexact HR
    isplitl [Hs17]; · iexact Hs17
    isplitl [Hr4]; · iexact Hr4
    isplitl [Ht17]; · iexact Ht17
    iexact HO
  iintro ⟨Hw12, HO⟩
  iapply (send_step m K c _ (r := 8) [9, 19, 10, 20] (by decide) (dev8_eq c) (f := k0_off2 c 1024#32) (k := 512) (k0_off2_eq c 2) rfl (inb := k0_off2_inb c 2) (inb' := k0_off2_inb c 2) (s := 3) rfl (q := 8) rfl) $$ [Hs8 Hl3 Ht8 HO]
  · isplitr; · iexact HR
    isplitl [Hs8]; · iexact Hs8
    isplitl [Hl3]; · iexact Hl3
    isplitl [Ht8]; · iexact Ht8
    iexact HO
  iintro ⟨Hw3, HO⟩
  iapply (send_step m K c _ (r := 9) [19, 10, 20] (by decide) (dev9_eq c) (f := k0_off2 c 1536#32) (k := 512) (k0_off2_eq c 3) rfl (inb := k0_off2_inb c 3) (inb' := k0_off2_inb c 3) (s := 4) rfl (q := 9) rfl) $$ [Hs9 Hl4 Ht9 HO]
  · isplitr; · iexact HR
    isplitl [Hs9]; · iexact Hs9
    isplitl [Hl4]; · iexact Hl4
    isplitl [Ht9]; · iexact Ht9
    iexact HO
  iintro ⟨Hw4, HO⟩
  iapply (send_step m K c _ (r := 19) [10, 20] (by decide) (dev10_eq c) (f := k0_off2 c 512#32) (k := 512) (k0_off2_eq c 1) rfl (inb := k0_off2_inb c 1) (inb' := k0_off2_inb c 1) (s := 14) rfl (q := 19) rfl) $$ [Hs19 Hr2 Ht19 HO]
  · isplitr; · iexact HR
    isplitl [Hs19]; · iexact Hs19
    isplitl [Hr2]; · iexact Hr2
    isplitl [Ht19]; · iexact Ht19
    iexact HO
  iintro ⟨Hw14, HO⟩
  -- the second hop
  iapply (wait_step m K c (j := 6) (by decide) [10, 20] (by decide) (q := 6) rfl (cred_band (r := 6) (by decide) (k := 512) rfl _ _ _)) $$ [Hc6 Ha6 HO]
  · isplitr; · iexact HR
    isplitr; · iexact Hlev
    isplitr [HO]
    · unfold waitKit; isplitl [Hc6]; · iexact Hc6
      iexact Ha6
    iexact HO
  iintro ⟨Hd6, Hz6, HO⟩
  ihave Hd6 := (Entails.of_eq (dpay_band m (c := c) (j := 6) (by decide))) $$ Hd6
  iapply (wait_step m K c (j := 7) (by decide) [10, 20] (by decide) (q := 7) rfl (cred_band (r := 7) (by decide) (k := 512) rfl _ _ _)) $$ [Hc7 Ha7 HO]
  · isplitr; · iexact HR
    isplitr; · iexact Hlev
    isplitr [HO]
    · unfold waitKit; isplitl [Hc7]; · iexact Hc7
      iexact Ha7
    iexact HO
  iintro ⟨Hd7, Hz7, HO⟩
  ihave Hd7 := (Entails.of_eq (dpay_band m (c := c) (j := 7) (by decide))) $$ Hd7
  ihave Hj5 := (join c (start c 6) fullShare (gath m)) $$ [Hd6 Hd7]
  · isplitl [Hd6]; · iexact Hd6
    iexact Hd7
  iapply (send_step m K c _ (r := 10) [20] (by decide) (dev11_eq c) (f := k0_off3 c) (k := 1024) (off3_eq c) rfl (inb := k0_off3_inb c) (inb' := k0_off3_inb c) (s := 5) rfl (q := 10) rfl) $$ [Hs10 Hj5 Ht10 HO]
  · isplitr; · iexact HR
    isplitl [Hs10]; · iexact Hs10
    isplitl [Hj5]; · iexact Hj5
    isplitl [Ht10]; · iexact Ht10
    iexact HO
  iintro ⟨Hw5, HO⟩
  iapply (wait_step m K c (j := 16) (by decide) [20] (by decide) (q := 16) rfl (cred_band (r := 16) (by decide) (k := 512) rfl _ _ _)) $$ [Hc16 Ha16 HO]
  · isplitr; · iexact HR
    isplitr; · iexact Hlev
    isplitr [HO]
    · unfold waitKit; isplitl [Hc16]; · iexact Hc16
      iexact Ha16
    iexact HO
  iintro ⟨Hd16, Hz16, HO⟩
  ihave Hd16 := (Entails.of_eq (dpay_band m (c := c) (j := 16) (by decide))) $$ Hd16
  iapply (wait_step m K c (j := 17) (by decide) [20] (by decide) (q := 17) rfl (cred_band (r := 17) (by decide) (k := 512) rfl _ _ _)) $$ [Hc17 Ha17 HO]
  · isplitr; · iexact HR
    isplitr; · iexact Hlev
    isplitr [HO]
    · unfold waitKit; isplitl [Hc17]; · iexact Hc17
      iexact Ha17
    iexact HO
  iintro ⟨Hd17, Hz17, HO⟩
  ihave Hd17 := (Entails.of_eq (dpay_band m (c := c) (j := 17) (by decide))) $$ Hd17
  ihave Hj15 := (join c (start c 16) fullShare (gath m)) $$ [Hd16 Hd17]
  · isplitl [Hd16]; · iexact Hd16
    iexact Hd17
  iapply (send_step m K c _ (r := 20) [] (by decide) (dev12_eq c) (f := k0_off4 c) (k := 1024) (off4_eq c) rfl (inb := k0_off4_inb c) (inb' := k0_off4_inb c) (s := 15) rfl (q := 20) rfl) $$ [Hs20 Hj15 Ht20 HO]
  · isplitr; · iexact HR
    isplitl [Hs20]; · iexact Hs20
    isplitl [Hj15]; · iexact Hj15
    isplitl [Ht20]; · iexact Ht20
    iexact HO
  iintro ⟨Hw15, HO⟩
  -- the remaining receives, then the sends
  iapply (wait_step m K c (j := 8) (by decide) [] (by decide) (q := 8) rfl (cred_band (r := 8) (by decide) (k := 512) rfl _ _ _)) $$ [Hc8 Ha8 HO]
  · isplitr; · iexact HR
    isplitr; · iexact Hlev
    isplitr [HO]
    · unfold waitKit; isplitl [Hc8]; · iexact Hc8
      iexact Ha8
    iexact HO
  iintro ⟨Hd8, Hz8, HO⟩
  ihave Hd8 := (Entails.of_eq (dpay_band m (c := c) (j := 8) (by decide))) $$ Hd8
  iapply (wait_step m K c (j := 9) (by decide) [] (by decide) (q := 9) rfl (cred_band (r := 9) (by decide) (k := 512) rfl _ _ _)) $$ [Hc9 Ha9 HO]
  · isplitr; · iexact HR
    isplitr; · iexact Hlev
    isplitr [HO]
    · unfold waitKit; isplitl [Hc9]; · iexact Hc9
      iexact Ha9
    iexact HO
  iintro ⟨Hd9, Hz9, HO⟩
  ihave Hd9 := (Entails.of_eq (dpay_band m (c := c) (j := 9) (by decide))) $$ Hd9
  iapply (wait_step m K c (j := 18) (by decide) [] (by decide) (q := 18) rfl (cred_band (r := 18) (by decide) (k := 512) rfl _ _ _)) $$ [Hc18 Ha18 HO]
  · isplitr; · iexact HR
    isplitr; · iexact Hlev
    isplitr [HO]
    · unfold waitKit; isplitl [Hc18]; · iexact Hc18
      iexact Ha18
    iexact HO
  iintro ⟨Hd18, Hz18, HO⟩
  ihave Hd18 := (Entails.of_eq (dpay_band m (c := c) (j := 18) (by decide))) $$ Hd18
  iapply (wait_step m K c (j := 19) (by decide) [] (by decide) (q := 19) rfl (cred_band (r := 19) (by decide) (k := 512) rfl _ _ _)) $$ [Hc19 Ha19 HO]
  · isplitr; · iexact HR
    isplitr; · iexact Hlev
    isplitr [HO]
    · unfold waitKit; isplitl [Hc19]; · iexact Hc19
      iexact Ha19
    iexact HO
  iintro ⟨Hd19, Hz19, HO⟩
  ihave Hd19 := (Entails.of_eq (dpay_band m (c := c) (j := 19) (by decide))) $$ Hd19
  iapply (wait_step m K c (j := 10) (by decide) [] (by decide) (q := 10) rfl (cred_band (r := 10) (by decide) (k := 1024) rfl _ _ _)) $$ [Hc10 Ha10 HO]
  · isplitr; · iexact HR
    isplitr; · iexact Hlev
    isplitr [HO]
    · unfold waitKit; isplitl [Hc10]; · iexact Hc10
      iexact Ha10
    iexact HO
  iintro ⟨Hd10, Hz10, HO⟩
  ihave Hd10 := (Entails.of_eq (dpay_band m (c := c) (j := 10) (by decide))) $$ Hd10
  iapply (wait_step m K c (j := 20) (by decide) [] (by decide) (q := 20) rfl (cred_band (r := 20) (by decide) (k := 1024) rfl _ _ _)) $$ [Hc20 Ha20 HO]
  · isplitr; · iexact HR
    isplitr; · iexact Hlev
    isplitr [HO]
    · unfold waitKit; isplitl [Hc20]; · iexact Hc20
      iexact Ha20
    iexact HO
  iintro ⟨Hd20, Hz20, HO⟩
  ihave Hd20 := (Entails.of_eq (dpay_band m (c := c) (j := 20) (by decide))) $$ Hd20
  iapply (wait_step m K c (j := 1) (by decide) [] (by decide) (q := 1) rfl (cred_band (r := 1) (by decide) (k := 512) rfl _ _ _)) $$ [Hw1 HO]
  · isplitr; · iexact HR
    isplitr; · iexact Hlev
    isplitl [Hw1]; · iexact Hw1
    iexact HO
  iintro ⟨Hd1, Hz1, HO⟩
  ihave Hd1 := (Entails.of_eq (dpay_band m (c := c) (j := 1) (by decide))) $$ Hd1
  iapply (wait_step m K c (j := 2) (by decide) [] (by decide) (q := 2) rfl (cred_band (r := 2) (by decide) (k := 512) rfl _ _ _)) $$ [Hw2 HO]
  · isplitr; · iexact HR
    isplitr; · iexact Hlev
    isplitl [Hw2]; · iexact Hw2
    iexact HO
  iintro ⟨Hd2, Hz2, HO⟩
  ihave Hd2 := (Entails.of_eq (dpay_band m (c := c) (j := 2) (by decide))) $$ Hd2
  iapply (wait_step m K c (j := 3) (by decide) [] (by decide) (q := 3) rfl (cred_band (r := 3) (by decide) (k := 512) rfl _ _ _)) $$ [Hw3 HO]
  · isplitr; · iexact HR
    isplitr; · iexact Hlev
    isplitl [Hw3]; · iexact Hw3
    iexact HO
  iintro ⟨Hd3, Hz3, HO⟩
  ihave Hd3 := (Entails.of_eq (dpay_band m (c := c) (j := 3) (by decide))) $$ Hd3
  iapply (wait_step m K c (j := 4) (by decide) [] (by decide) (q := 4) rfl (cred_band (r := 4) (by decide) (k := 512) rfl _ _ _)) $$ [Hw4 HO]
  · isplitr; · iexact HR
    isplitr; · iexact Hlev
    isplitl [Hw4]; · iexact Hw4
    iexact HO
  iintro ⟨Hd4, Hz4, HO⟩
  ihave Hd4 := (Entails.of_eq (dpay_band m (c := c) (j := 4) (by decide))) $$ Hd4
  iapply (wait_step m K c (j := 11) (by decide) [] (by decide) (q := 11) rfl (cred_band (r := 11) (by decide) (k := 512) rfl _ _ _)) $$ [Hw11 HO]
  · isplitr; · iexact HR
    isplitr; · iexact Hlev
    isplitl [Hw11]; · iexact Hw11
    iexact HO
  iintro ⟨Hd11, Hz11, HO⟩
  ihave Hd11 := (Entails.of_eq (dpay_band m (c := c) (j := 11) (by decide))) $$ Hd11
  iapply (wait_step m K c (j := 12) (by decide) [] (by decide) (q := 12) rfl (cred_band (r := 12) (by decide) (k := 512) rfl _ _ _)) $$ [Hw12 HO]
  · isplitr; · iexact HR
    isplitr; · iexact Hlev
    isplitl [Hw12]; · iexact Hw12
    iexact HO
  iintro ⟨Hd12, Hz12, HO⟩
  ihave Hd12 := (Entails.of_eq (dpay_band m (c := c) (j := 12) (by decide))) $$ Hd12
  iapply (wait_step m K c (j := 13) (by decide) [] (by decide) (q := 13) rfl (cred_band (r := 13) (by decide) (k := 512) rfl _ _ _)) $$ [Hw13 HO]
  · isplitr; · iexact HR
    isplitr; · iexact Hlev
    isplitl [Hw13]; · iexact Hw13
    iexact HO
  iintro ⟨Hd13, Hz13, HO⟩
  ihave Hd13 := (Entails.of_eq (dpay_band m (c := c) (j := 13) (by decide))) $$ Hd13
  iapply (wait_step m K c (j := 14) (by decide) [] (by decide) (q := 14) rfl (cred_band (r := 14) (by decide) (k := 512) rfl _ _ _)) $$ [Hw14 HO]
  · isplitr; · iexact HR
    isplitr; · iexact Hlev
    isplitl [Hw14]; · iexact Hw14
    iexact HO
  iintro ⟨Hd14, Hz14, HO⟩
  ihave Hd14 := (Entails.of_eq (dpay_band m (c := c) (j := 14) (by decide))) $$ Hd14
  iapply (wait_step m K c (j := 5) (by decide) [] (by decide) (q := 5) rfl (cred_band (r := 5) (by decide) (k := 1024) rfl _ _ _)) $$ [Hw5 HO]
  · isplitr; · iexact HR
    isplitr; · iexact Hlev
    isplitl [Hw5]; · iexact Hw5
    iexact HO
  iintro ⟨Hd5, Hz5, HO⟩
  ihave Hd5 := (Entails.of_eq (dpay_band m (c := c) (j := 5) (by decide))) $$ Hd5
  iapply (wait_step m K c (j := 15) (by decide) [] (by decide) (q := 15) rfl (cred_band (r := 15) (by decide) (k := 1024) rfl _ _ _)) $$ [Hw15 HO]
  · isplitr; · iexact HR
    isplitr; · iexact Hlev
    isplitl [Hw15]; · iexact Hw15
    iexact HO
  iintro ⟨Hd15, Hz15, HO⟩
  ihave Hd15 := (Entails.of_eq (dpay_band m (c := c) (j := 15) (by decide))) $$ Hd15
  rw [wp_ret]; imodintro
  iapply Hk
  unfold Φ₁
  isplitl [Hv21 Hx21 Hv22 Hx22 Hv23 Hx23 Hv24 Hx24 Hz0 Hz1 Hz2 Hz3 Hz4 Hz5 Hz6 Hz7 Hz8 Hz9 Hz10 Hz11 Hz12 Hz13 Hz14 Hz15 Hz16 Hz17 Hz18 Hz19 Hz20 Hz21 Hz22 Hz23 Hz24]
  · isplitl [Hv21 Hv22 Hv23 Hv24]
    · iexists (xin m c)
      iapply (Entails.of_eq ((xv_quarters c (xin m c)).trans (sep_quarters _)).symm)
      isplitl [Hv21]; · iexact Hv21
      isplitl [Hv22]; · iexact Hv22
      isplitl [Hv23] <;> iassumption
    isplitl [Hx21 Hx22 Hx23 Hx24]
    · iapply (Entails.of_eq ((xa_quarters m c).trans (sep_quarters _)).symm)
      isplitl [Hx21]; · iexact Hx21
      isplitl [Hx22]; · iexact Hx22
      isplitl [Hx23] <;> iassumption
    rw [sep_all]
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    isplitl [Hz16]; · iexact Hz16
    isplitl [Hz17]; · iexact Hz17
    isplitl [Hz18]; · iexact Hz18
    isplitl [Hz19]; · iexact Hz19
    isplitl [Hz20]; · iexact Hz20
    isplitl [Hz21]; · iexact Hz21
    isplitl [Hz22]; · iexact Hz22
    isplitl [Hz23]; · iexact Hz23
    iexact Hz24
  isplitl [HO]
  · iapply (show ow c (debt c []) ⊢ iprop(∃ W, owes (c : Thread nD τ) 0 W) from Entails.rfl); iexact HO
  iapply (Entails.of_eq ((whole_pieces c (gath m)).trans (sep_pieces _)).symm)
  ihave Hj5 := (show band c (start c 5) (len 5) (shr 5) (gath m) ⊢ _ from Entails.of_eq (band_two c (start c 5) fullShare (gath m))) $$ Hd5
  icases Hj5 with ⟨Hd6, Hd7⟩
  ihave Hj15 := (show band c (start c 15) (len 15) (shr 15) (gath m) ⊢ _ from Entails.of_eq (band_two c (start c 15) fullShare (gath m))) $$ Hd15
  icases Hj15 with ⟨Hd16, Hd17⟩
  isplitl [Hd1 Hd13]
  · iapply (halves c (start c 1) 512 (gath m)); isplitl [Hd1]; · iexact Hd1
    iexact Hd13
  isplitl [Hd2 Hd14]
  · iapply (halves c (start c 2) 512 (gath m)); isplitl [Hd2]; · iexact Hd2
    iexact Hd14
  isplitl [Hd3 Hd11]
  · iapply (halves c (start c 3) 512 (gath m)); isplitl [Hd3]; · iexact Hd3
    iexact Hd11
  isplitl [Hd4 Hd12]
  · iapply (halves c (start c 4) 512 (gath m)); isplitl [Hd4]; · iexact Hd4
    iexact Hd12
  isplitl [Hd6]; · iexact Hd6
  isplitl [Hd7]; · iexact Hd7
  isplitl [Hd8]; · iexact Hd8
  isplitl [Hd9]; · iexact Hd9
  isplitl [Hd10]; · iexact Hd10
  isplitl [Hd16]; · iexact Hd16
  isplitl [Hd17]; · iexact Hd17
  isplitl [Hd18]; · iexact Hd18
  isplitl [Hd19]; · iexact Hd19
  iexact Hd20

end Cert.Gather

end
-- ==== Proof.Launch.lean ====
/-
# The launch

What the launch deals every device becomes what the kernel's body starts from: every semaphore's protocol is opened,
the rights to pay are dealt around the ring, the launch credits are counted. Then the run of the whole program.
-/
module

public import proofs.«01_k».proof.Proof.Body
public import Idealize.ShloMosaic.Lib.Pipeline.CollectiveSegs

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the pipeline asks for it -/

set_option maxRecDepth 8000 in
/-- The body's run is what the pipeline asks of a kernel at its one point. -/
theorem body_ok (c : Dev nD) : BodyObligation (dats (F := F) m 0 c) (defs₀ (F := F)) 𝒱₀ () Set.univ := fun t => by
  rw [fin_N0 t, bigSep_W0, bigSep_W0]
  simp only [owns_whole_eq]
  show iprop(Φ₀ m c ∗ (∃ W, ⌜_⌝ ∗ owes (c : Thread nD τ) (owe₀ c) W)
      ∗ ∃ d, ∃ f : Buf (Elt F) ((c : Thread nD τ).loc cc0_stg0_0), ⌜f = (dats (F := F) m 0 c).before (0 : Fin 1) t0_0 d⌝ ∗ (((c : Thread nD τ).loc cc0_stg0_0) ↦{fullShare} f))
    ⊢ wp frame (wpE (defs₀ (F := F)) 𝒱₀ (c : Thread nD τ) none) Set.univ
        (cc0_body aM (Memref.isWhole_whole _) oM (Memref.isWhole_whole _) vM (Memref.isWhole_whole _) cc0_scratch1 cc0_scratch2 cc0_scratch3 cc0_scratch4 cc0_scratch5)
        fun _ => iprop(Φ₁ m c ∗ (∃ W, ⌜_⌝ ∗ owes (c : Thread nD τ) 0 W)
          ∗ ∃ f : Buf (Elt F) ((c : Thread nD τ).loc cc0_stg0_0), ⌜f = gath m⌝ ∗ (((c : Thread nD τ).loc cc0_stg0_0) ↦{fullShare} f))
  unfold Φ₀ begin₀
  iintro ⟨⟨⟨⟨%K, Hg⟩, Hc, Hl, Ha⟩, Hs⟩, ⟨%W, -, HO⟩, ⟨%d, %f, -, Hf⟩⟩
  iapply (sound_body m K c)
  isplitl
  · isplitl [Hg]; · iexact Hg
    isplitl [Hc]; · iexact Hc
    isplitl [Hl]; · iexact Hl
    isplitl [Ha]; · iexact Ha
    isplitl [Hs]; · iexact Hs
    isplitl [HO]; · (unfold ow; iexists W; iexact HO)
    unfold bufO; iexists f; iexact Hf
  · unfold ow
    iintro ⟨HΦ, ⟨%W', HO⟩, Hf⟩
    isplitl [HΦ]; · iexact HΦ
    isplitl [HO]
    · iexists W'; isplitr; · ipureintro; exact fun _ _ => Or.inl trivial
      iexact HO
    iexists (gath m); isplitr; · (ipureintro; rfl)
    iexact Hf

/-! ## The cells and the rights to pay, as minted -/

/-- The kernel's own semaphores: the DMA semaphores but the staging one. -/
abbrev osem (j : Fin 24) : SemLoc sig := .dma (j.succ : Fin 25)

/-- They are distinct, and none is the staging one. -/
theorem ownSemFacts : Pipeline.OwnSemFacts cfg0.spec osem := by decide

/-- Different semaphores of different devices are different cells. -/
theorem kcell_injective : Function.Injective (kcell : Dev nD × Fin 25 → GSem nD τ sig) := by
  rintro ⟨c, i⟩ ⟨d, j⟩ h
  have hd : c = d := Fin.ext (congrArg (fun g : GSem nD τ sig => g.1.1.val) h)
  have hs : csem i = csem j := congrArg Prod.snd h
  unfold csem at hs
  have : i = j := by
    split at hs <;> split at hs
    · rename_i h1 h2; rw [h1, h2]
    · cases hs
    · cases hs
    · exact SemLoc.dma.inj hs
  rw [hd, this]

/-- A name for each right to pay: the cell, and which of its payers. Only a barrier cell has two. -/
abbrev tokName (x : (Dev nD × Fin 25) × Bool) : GSem nD τ sig × ℕ × Bool := (kcell x.1, 0, x.2)

/-- Different rights have different names. -/
theorem tokName_injective : Function.Injective tokName := by
  rintro ⟨c, b⟩ ⟨d, e⟩ h
  have h1 : kcell c = kcell d := congrArg Prod.fst h
  have h2 : b = e := congrArg (fun x : GSem nD τ sig × ℕ × Bool => x.2.2) h
  rw [kcell_injective h1, h2]

/-- All cells, and all rights. -/
def allCells : Finset (GSem nD τ sig) := Finset.univ.map ⟨kcell, kcell_injective⟩
/-- All rights to pay. -/
def allToks : Finset (GSem nD τ sig × ℕ × Bool) := Finset.univ.map ⟨tokName, tokName_injective⟩

/-- What the launch starts the two libraries' resources at. -/
def u₀ : UU := (initOf (Pipeline.cells cfgs cellOf_inj) (Pipeline.launchToks cfgs cellOf_inj), initOf allCells allToks)

/-- The place at a cell, and the rights to pay it. -/
def keep (x : Dev nD × Fin 25) : sProp 𝕄 :=
  iprop(atPos ER (kcell x) 0 ∅ 0 ∗ dutyTok ER (kcell x) 0 false ∗ dutyTok ER (kcell x) 0 true)

/-- What is dealt for one cell. -/
def deal (x : Dev nD × Fin 25) : sProp 𝕄 := iprop(roundState ER (sched m) (kcell x) 0 ∗ reached ER (kcell x) 0 ∗ keep x)

/-- What is dealt to a device. -/
def G (c : Dev nD) : sProp 𝕄 := bigSep Finset.univ fun j : Fin 25 => deal m (c, j)

omit [FloatOps F] in
/-- One per payer, one by one. -/
theorem sep_bool (Φ : Bool → sProp 𝕄) : bigSep Finset.univ Φ = iprop(Φ false ∗ Φ true) :=
  bigSep_univ_eq_bigSepL [false, true] (by decide) (by decide) Φ

omit [FloatOps F] in
/-- The launch's resource is what every device is dealt. -/
theorem fund_all : BI.own (ER (initOf allCells allToks)) ⊢ (|==> bigSep Finset.univ (G m) : sProp 𝕄) := by
  have hC (Φ : GSem nD τ sig → sProp 𝕄) : bigSep allCells Φ = bigSep Finset.univ fun x : Dev nD × Fin 25 => Φ (kcell x) := by
    unfold allCells; rw [bigSep_map]; rfl
  have hT : bigSep allToks (fun x => (dutyTok ER x.1 x.2.1 x.2.2 : sProp 𝕄))
      = bigSep Finset.univ fun x : Dev nD × Fin 25 => iprop(dutyTok ER (kcell x) 0 false ∗ dutyTok ER (kcell x) 0 true) := by
    unfold allToks; rw [bigSep_map, bigSep_univ_prod]
    exact bigSep_congr fun x _ => sep_bool _
  have hG : bigSep Finset.univ (G m) = (bigSep Finset.univ fun x : Dev nD × Fin 25 => deal m x : sProp 𝕄) := by
    rw [bigSep_univ_prod]; rfl
  rw [hG]
  unfold deal keep
  simp only [bigSep_sep']
  rw [← bigSep_sep' Finset.univ (fun x : Dev nD × Fin 25 => (dutyTok ER (kcell x) 0 false : sProp 𝕄)), ← hT,
    ← hC fun g => roundState ER (sched m) g 0, ← hC fun g => reached ER g 0, ← hC fun g => atPos ER g 0 ∅ 0]
  exact Rounds.fund ER (sched m) allCells allToks

/-! ## Opening every cell -/

omit [FloatOps F] in
/-- A device's semaphores at launch, all at zero: the kernel's own and the barrier. -/
theorem sems_eq (c : Dev nD) :
    iprop(Pipeline.ownSems0 (Ix := Unit) (Name := ℕ) (U := UU) (Lvl := ℕ) (Val := Elt F) (τ := τ) osem c ∗ unscopedSems0 c)
      = (bigSep Finset.univ fun j : Fin 25 => semVal (kcell (c, j)) 0 : sProp 𝕄) := by
  have hb : (unscopedSems0 c : sProp 𝕄) = semVal (barCell c) 0 := by
    unfold unscopedSems0; rw [bigSep_eq_bigSepL_of_eq [SemLoc.reg barS] (by decide) (by decide)]; rfl
  have ho : (Pipeline.ownSems0 (Ix := Unit) (Name := ℕ) (U := UU) (Lvl := ℕ) (Val := Elt F) (τ := τ) osem c : sProp 𝕄)
      = bigSep (Finset.univ.erase (0 : Fin 25)) fun j => semVal (kcell (c, j)) 0 := by
    rw [show (Finset.univ.erase (0 : Fin 25)) = Finset.univ.map ⟨Fin.succ, Fin.succ_injective 24⟩ from by decide, bigSep_map]
    unfold Pipeline.ownSems0
    exact bigSep_congr fun j _ => by
      show semVal ((c : Thread nD τ), osem j) 0 = semVal (kcell (c, j.succ)) 0
      rw [kcell_pos c (Fin.succ_ne_zero j)]
  rw [hb, ho, bigSep_univ_at (fun j : Fin 25 => (semVal (kcell (c, j)) 0 : sProp 𝕄)) 0, kcell_zero]
  exact bi_eq ⟨BI.sep_comm, BI.sep_comm⟩

omit [FloatOps F] in
/-- One cell opened. -/
theorem open_cell (x : Dev nD × Fin 25) :
    iprop(semVal (kcell x) 0 ∗ deal m x)
      ⊢ (|={Set.univ}=> iprop((∃ κ : ℕ, cellInv ER (sched m) κ (kcell x) ∗ reached ER (kcell x) 0) ∗ keep x) : sProp 𝕄) := by
  unfold deal
  iintro ⟨Hv, Hst, #Hr, Hk⟩
  imod (show iprop(semVal (kcell x) 0 ∗ roundState ER (sched m) (kcell x) 0) ⊢ (|={Set.univ}=> iprop(∃ κ : ℕ, cellInv ER (sched m) κ (kcell x)) : sProp 𝕄) from
    (Rounds.body_intro ER (sched m) (kcell x)).trans inv_alloc) $$ [Hv Hst] with Hi
  · isplitl [Hv]; · iexact Hv
    iexact Hst
  icases Hi with ⟨%κ, Hi⟩
  imodintro
  isplitl [Hi]
  · iexists κ; isplitl [Hi]; · iexact Hi
    iexact Hr
  iexact Hk

/-! ## Dealing the rights around the ring -/

omit [FloatOps F] in
/-- A device's twenty-five things by what they belong to: the barrier, the receives, the sends, the local copies. -/
theorem sort (Φ : Fin 25 → sProp 𝕄) :
    bigSep Finset.univ Φ ⊢ iprop(Φ 0 ∗ bigSep recvs Φ ∗ bigSep recvs (fun r => Φ (snd r)) ∗ bigSep quarters Φ) := by
  rw [sep_all, sep_recvs, sep_recvs, sep_quarters, show snd 6 = 1 from rfl, show snd 7 = 2 from rfl, show snd 8 = 3 from rfl, show snd 9 = 4 from rfl,
    show snd 10 = 5 from rfl, show snd 16 = 11 from rfl, show snd 17 = 12 from rfl, show snd 18 = 13 from rfl, show snd 19 = 14 from rfl, show snd 20 = 15 from rfl]
  iintro ⟨H0, H1, H2, H3, H4, H5, H6, H7, H8, H9, H10, H11, H12, H13, H14, H15, H16, H17, H18, H19, H20, H21, H22, H23, H24⟩
  isplitl [H0]
  · iexact H0
  isplitl [H6 H7 H8 H9 H10 H16 H17 H18 H19 H20]
  · isplitl [H6]; · iexact H6
    isplitl [H7]; · iexact H7
    isplitl [H8]; · iexact H8
    isplitl [H9]; · iexact H9
    isplitl [H10]; · iexact H10
    isplitl [H16]; · iexact H16
    isplitl [H17]; · iexact H17
    isplitl [H18]; · iexact H18
    isplitl [H19]; · iexact H19
    iexact H20
  isplitl [H1 H2 H3 H4 H5 H11 H12 H13 H14 H15]
  · isplitl [H1]; · iexact H1
    isplitl [H2]; · iexact H2
    isplitl [H3]; · iexact H3
    isplitl [H4]; · iexact H4
    isplitl [H5]; · iexact H5
    isplitl [H11]; · iexact H11
    isplitl [H12]; · iexact H12
    isplitl [H13]; · iexact H13
    isplitl [H14]; · iexact H14
    iexact H15
  isplitl [H21]; · iexact H21
  isplitl [H22]; · iexact H22
  isplitl [H23]; · iexact H23
  iexact H24

omit [FloatOps F] in
/-- A right per device and receive, each handed to its payer. -/
theorem around (Φ : Dev nD → Fin 25 → sProp 𝕄) :
    (bigSep Finset.univ fun c : Dev nD => bigSep recvs fun r => Φ c r) = bigSep Finset.univ fun c : Dev nD => bigSep recvs fun r => Φ (tgt c r) r := by
  simp only [sep_recvs, bigSep_sep']
  rw [bigSep_univ_equiv ring (fun c => Φ c 6),
    bigSep_univ_equiv ring (fun c => Φ c 7),
    bigSep_univ_equiv ring (fun c => Φ c 8),
    bigSep_univ_equiv ring (fun c => Φ c 9),
    bigSep_univ_equiv ring (fun c => Φ c 10),
    bigSep_univ_equiv ring.symm (fun c => Φ c 16),
    bigSep_univ_equiv ring.symm (fun c => Φ c 17),
    bigSep_univ_equiv ring.symm (fun c => Φ c 18),
    bigSep_univ_equiv ring.symm (fun c => Φ c 19),
    bigSep_univ_equiv ring.symm (fun c => Φ c 20)]
  rfl

/-- What a device keeps of its own. -/
def mine (c : Dev nD) : sProp 𝕄 :=
  iprop(atPos ER (barCell c) 0 ∅ 0 ∗ bigSep recvs (fun r => atPos ER (dcell c r) 0 ∅ 0)
    ∗ bigSep recvs (fun r => iprop(dutyTok ER (dcell c (snd r)) 0 false ∗ atPos ER (dcell c (snd r)) 0 ∅ 0)) ∗ bigSep quarters (copyKit c))

/-- No receive, and no send, is on semaphore 0. -/
theorem recvs_ne : ∀ r ∈ recvs, r ≠ 0 ∧ snd r ≠ 0 := by decide
/-- Nor is a local copy. -/
theorem quarters_ne : ∀ j ∈ quarters, j ≠ 0 := by decide

omit [FloatOps F] in
/-- What the cells of one device leave, split into what it keeps and what it hands on. -/
theorem split_keep (c : Dev nD) :
    (bigSep Finset.univ fun j : Fin 25 => keep (c, j))
      ⊢ (iprop(mine c ∗ dutyTok ER (barCell c) 0 true ∗ dutyTok ER (barCell c) 0 false ∗ bigSep recvs fun r => dutyTok ER (dcell c r) 0 false) : sProp 𝕄) := by
  refine (sort fun j => keep (c, j)).trans ?_
  unfold mine
  have h1 : (bigSep recvs fun r => keep (c, r)) ⊢ (iprop((bigSep recvs fun r => atPos ER (dcell c r) 0 ∅ 0) ∗ bigSep recvs fun r => dutyTok ER (dcell c r) 0 false) : sProp 𝕄) := by
    rw [← bigSep_sep']
    exact bigSep_mono fun r hr => by
      unfold keep; rw [kcell_pos c (recvs_ne r hr).1]
      show (_ : sProp 𝕄) ⊢ _
      iintro ⟨Ha, Ht, -⟩
      isplitl [Ha] <;> iassumption
  have h2 : (bigSep recvs fun r => keep (c, snd r)) ⊢ (bigSep recvs (fun r => iprop(dutyTok ER (dcell c (snd r)) 0 false ∗ atPos ER (dcell c (snd r)) 0 ∅ 0)) : sProp 𝕄) :=
    bigSep_mono fun r hr => by
      unfold keep; rw [kcell_pos c (recvs_ne r hr).2]
      show (_ : sProp 𝕄) ⊢ _
      iintro ⟨Ha, Ht, -⟩
      isplitl [Ht] <;> iassumption
  have h3 : (bigSep quarters fun j => keep (c, j)) ⊢ (bigSep quarters (copyKit c) : sProp 𝕄) :=
    bigSep_mono fun j hj => by
      unfold keep copyKit; rw [kcell_pos c (quarters_ne j hj)]
      show (_ : sProp 𝕄) ⊢ _
      iintro ⟨Ha, Ht, -⟩
      isplitl [Ht] <;> iassumption
  iintro ⟨H0, Hr, Hs, Hq⟩
  ihave H0 := (show keep (c, 0) ⊢ (iprop(atPos ER (barCell c) 0 ∅ 0 ∗ dutyTok ER (barCell c) 0 false ∗ dutyTok ER (barCell c) 0 true) : sProp 𝕄) from Entails.rfl) $$ H0
  icases H0 with ⟨Ha, Hf, Ht⟩
  ihave Hr := h1 $$ Hr
  icases Hr with ⟨Hra, Hrt⟩
  isplitl [Ha Hra Hs Hq]
  · isplitl [Ha]; · iexact Ha
    isplitl [Hra]; · iexact Hra
    isplitl [Hs]; · (iapply h2; iexact Hs)
    iapply h3; iexact Hq
  isplitl [Ht]; · iexact Ht
  isplitl [Hf]; · iexact Hf
  iexact Hrt

omit [FloatOps F] in
/-- What a device keeps, with what its neighbours hand it, is its part of the state. -/
theorem join_linear (c : Dev nD) :
    (iprop(mine c ∗ dutyTok ER (barCell (prv c)) 0 true ∗ dutyTok ER (barCell (nxt c)) 0 false ∗ bigSep recvs fun r => dutyTok ER (dcell (tgt c r) r) 0 false) : sProp 𝕄)
      ⊢ linear c := by
  unfold mine linear
  have h : iprop((bigSep recvs fun r => iprop(dutyTok ER (dcell c (snd r)) 0 false ∗ atPos ER (dcell c (snd r)) 0 ∅ 0)) ∗ bigSep recvs fun r => dutyTok ER (dcell (tgt c r) r) 0 false)
      ⊢ (bigSep recvs (sendKit c) : sProp 𝕄) := by
    rw [← bigSep_sep']
    exact bigSep_mono fun r _ => by
      unfold sendKit
      show (_ : sProp 𝕄) ⊢ _
      iintro ⟨⟨Ht, Ha⟩, Hr⟩
      isplitl [Ht]; · iexact Ht
      isplitl [Hr] <;> iassumption
  iintro ⟨⟨Ha, Hra, Hs, Hq⟩, Ht, Hf, Hr⟩
  isplitl [Ha]; · iexact Ha
  isplitl [Ht]; · iexact Ht
  isplitl [Hf]; · iexact Hf
  isplitl [Hs Hr]
  · iapply h; isplitl [Hs] <;> iassumption
  isplitl [Hq] <;> iassumption

omit [FloatOps F] in
/-- All the rights, dealt. -/
theorem deal_around : (bigSep Finset.univ fun x : Dev nD × Fin 25 => keep x) ⊢ (bigSep Finset.univ fun c : Dev nD => linear c : sProp 𝕄) := by
  rw [bigSep_univ_prod]
  have h1 := bigSep_mono (s := Finset.univ) fun (c : Dev nD) _ => split_keep (F := F) c
  have h2 := bigSep_mono (s := Finset.univ) fun (c : Dev nD) _ => join_linear (F := F) c
  refine Entails.trans h1 (Entails.trans (Entails.of_eq ?_) h2)
  simp only [bigSep_sep']
  rw [around fun c r => dutyTok ER (dcell c r) 0 false,
    bigSep_univ_equiv ring.symm (fun c : Dev nD => (dutyTok ER (barCell c) 0 true : sProp 𝕄)),
    bigSep_univ_equiv ring (fun c : Dev nD => (dutyTok ER (barCell c) 0 false : sProp 𝕄))]
  rfl

/-- What the launch's global step makes of it for one device. -/
def G' (c : Dev nD) : sProp 𝕄 := iprop(∃ K, ghost m K c)

omit [FloatOps F] in
/-- The opened cells, gathered under one naming, with the rights dealt. -/
theorem regroup :
    (bigSep Finset.univ fun x : Dev nD × Fin 25 => iprop((∃ κ : ℕ, cellInv ER (sched m) κ (kcell x) ∗ reached ER (kcell x) 0) ∗ keep x))
      ⊢ (bigSep Finset.univ (G' m) : sProp 𝕄) := by
  rw [bigSep_sep']
  iintro ⟨HI, Hk⟩
  ihave HK := (BI.bigSep_exists_pi Finset.univ (fun (x : Dev nD × Fin 25) (κ : ℕ) => (iprop(cellInv ER (sched m) κ (kcell x) ∗ reached ER (kcell x) 0) : sProp 𝕄))) $$ HI
  icases HK with ⟨%K, HI⟩
  ihave #HR := (show (bigSep Finset.univ fun x : Dev nD × Fin 25 => iprop(cellInv ER (sched m) (K x) (kcell x) ∗ reached ER (kcell x) 0)) ⊢ (records m K : sProp 𝕄) from Entails.rfl) $$ HI
  ihave Hl := (deal_around (F := F)) $$ Hk
  iapply (show iprop((bigSep Finset.univ fun _ : Dev nD => records m K) ∗ bigSep Finset.univ fun c : Dev nD => linear c) ⊢ (bigSep Finset.univ (G' m) : sProp 𝕄) from by
    rw [← bigSep_sep']
    exact bigSep_mono fun c _ => by
      unfold G' ghost; show (_ : sProp 𝕄) ⊢ _; iintro H; iexists K; iexact H)
  isplitr
  · iapply (BI.bigSep_of_persistent Finset.univ (records m K)); iexact HR
  iexact Hl

omit [FloatOps F] in
/-- The launch's global step. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  have h1 : ∀ c : Dev nD, iprop(Pipeline.ownSems0 (Ix := Unit) (Name := ℕ) (U := UU) (Lvl := ℕ) (Val := Elt F) (τ := τ) osem c ∗ unscopedSems0 c ∗ G m c)
      ⊢ (bigSep Finset.univ fun j : Fin 25 => iprop(semVal (kcell (c, j)) 0 ∗ deal m (c, j)) : sProp 𝕄) := fun c => by
    rw [bigSep_sep', ← sems_eq c]
    unfold G
    iintro ⟨Ho, Hu, HG⟩
    isplitl [Ho Hu]
    · isplitl [Ho] <;> iassumption
    iexact HG
  refine (bigSep_mono fun c _ => h1 c).trans ?_
  rw [← bigSep_univ_prod (fun x : Dev nD × Fin 25 => (iprop(semVal (kcell x) 0 ∗ deal m x) : sProp 𝕄))]
  exact ((bigSep_mono fun x _ => open_cell m x).trans (bigSep_fupd _ _)).trans (BI.fupd_mono (regroup m))

/-! ## The launch credits -/

/-- Everything the devices owe a receive cell, summed: its transfer's credit. -/
theorem owed_recv (c : Dev nD) (r : Fin 25) (hr : r ∈ order) : ∑ d : Dev nD, owe₀ d (dcell c r) () = crd r := by
  have h : ∀ d : Dev nD, owe₀ d (dcell c r) () = if d = src c r then crd r else 0 := fun d => by
    show debt d order (dcell c r) () + tallyAt (barCell (nxt d)) () 1 (dcell c r) () + tallyAt (barCell (prv d)) () 1 (dcell c r) () = _
    rw [debt_dma d c r order order_nodup, tallyAt_apply, tallyAt_apply, if_neg (c := dcell c r = barCell (nxt d) ∧ () = ()) (fun h => dcell_ne_bar _ _ _ h.1),
      if_neg (c := dcell c r = barCell (prv d) ∧ () = ()) (fun h => dcell_ne_bar _ _ _ h.1), Nat.add_zero]
    by_cases e : d = src c r
    · rw [if_pos ⟨hr, (tgt_eq_iff c d r).mpr e⟩, if_pos e]
    · rw [if_neg (fun h => e ((tgt_eq_iff c d r).mp h.2)), if_neg e]
  rw [Finset.sum_congr rfl fun d _ => h d, Finset.sum_ite_eq' Finset.univ (src c r) fun _ => crd r, if_pos (Finset.mem_univ _)]

/-- Everything owed to a barrier: a unit by each neighbour. -/
theorem owed_bar (c : Dev nD) : ∑ d : Dev nD, owe₀ d (barCell c) () = 2 := by
  have h : ∀ d : Dev nD, owe₀ d (barCell c) () = (if d = prv c then 1 else 0) + (if d = nxt c then 1 else 0) := fun d => by
    show debt d order (barCell c) () + tallyAt (barCell (nxt d)) () 1 (barCell c) () + tallyAt (barCell (prv d)) () 1 (barCell c) () = _
    rw [debt_bar, tallyAt_apply, tallyAt_apply, Nat.zero_add]
    congr 1
    · by_cases e : d = prv c
      · rw [if_pos e, if_pos ⟨by rw [e, nxt_prv], rfl⟩]
      · rw [if_neg e, if_neg (fun h => e (by rw [barCell_inj.mp h.1, prv_nxt]))]
    · by_cases e : d = nxt c
      · rw [if_pos e, if_pos ⟨by rw [e, prv_nxt], rfl⟩]
      · rw [if_neg e, if_neg (fun h => e (by rw [barCell_inj.mp h.1, nxt_prv]))]
  rw [Finset.sum_congr rfl fun d _ => h d, Finset.sum_add_distrib, Finset.sum_ite_eq' Finset.univ (prv c) fun _ => 1,
    Finset.sum_ite_eq' Finset.univ (nxt c) fun _ => 1, if_pos (Finset.mem_univ _), if_pos (Finset.mem_univ _)]

/-- A cell's launch credit from the sum of the debts. -/
theorem launch_tally (g : GSem nD τ sig) (n : ℕ) (h : ∑ d : Dev nD, owe₀ d g () = n) :
    tallyOn g (launchCredit (Pipeline.owing owe₀) 0 g) = (tallyAt g () n : CellTallies nD τ sig Unit) := by
  unfold tallyAt; refine congrArg _ (Finsupp.ext fun u => ?_); cases u
  rw [Pipeline.launchCredit_owing, h, Finsupp.single_eq_same]

/-- Every receive is of a transfer the kernel starts. -/
theorem recvs_order : ∀ r ∈ recvs, r ∈ order := by decide

omit [FloatOps F] in
/-- The credits the launch gives a device. -/
theorem credits_intro (c : Dev nD) : (Pipeline.launchCred owe₀ c : sProp 𝕄) ⊢ credits c := by
  unfold Pipeline.launchCred credits
  rw [bigSep_univ_at _ (SemLoc.reg barS), launch_tally (barCell c) 2 (owed_bar c)]
  refine sep_mono_right ?_
  refine (bigSep_subset (t := recvs.map ⟨fun r => SemLoc.dma (r : DmaSem sig), fun a b h => SemLoc.dma.inj h⟩) fun x hx => ?_).trans ?_
  · obtain ⟨r, -, rfl⟩ := Finset.mem_map.mp hx
    exact Finset.mem_erase.mpr ⟨fun h => (by cases h), Finset.mem_univ _⟩
  · rw [bigSep_map]
    exact bigSep_mono fun r hr => Entails.of_eq (congrArg cred (launch_tally (dcell c r) (crd r) (owed_recv c r (recvs_order r hr))))

/-! ## The run -/

omit [FloatOps F] in
/-- What the launch gives a device is what its body starts from. -/
theorem begin_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ G' m c)
      ⊢ |={Set.univ}=> (iprop(begin₀ m c ∗ emp) : sProp 𝕄) := by
  rw [Pipeline.unscopedRestP_none, unscopedRest0_eq]
  iintro ⟨Ha, Hl, Hc, -, HG⟩
  ihave Hc := (credits_intro (F := F) c) $$ Hc
  imodintro
  unfold begin₀ G'
  isplitl
  · isplitl [HG]; · iexact HG
    isplitl [Hc]; · iexact Hc
    isplitl [Hl]; · iexact Hl
    iexact Ha
  · iempintro

/-- What is left of a device's memory after the kernel, besides its scoped part. -/
def left₁ (c : Dev nD) : sProp 𝕄 := iprop(unscopedSems0 c ∗ (((c : Thread nD τ).loc main_arg0) ↦{fullShare} xin m c))

/-- With the scratch buffer it is the state before the one point. -/
theorem enter (c : Dev nD) :
    iprop(begin₀ m c ∗ Pipeline.prefHeld Pipeline.Prefetch.none c (fun _ => fullShare.right) (fun k => k.elim0) ∗ Pipeline.scopedRest cfg0.spec c)
      ⊢ (dats (F := F) m 0 c).Φ 0 := by
  rw [show (dats (F := F) m 0 c).Φ 0 = Φ₀ m c from rfl, scopedRest0_eq]
  unfold Φ₀
  iintro ⟨Hs, -, Hr⟩
  isplitl [Hs] <;> iassumption

/-- The state after it gives the semaphores and the scratch buffer back. -/
theorem leave (c : Dev nD) :
    (dats (F := F) m 0 c).Φ (Fin.last cfg0.N) ⊢ iprop(left₁ m c ∗ Pipeline.ownSems0 osem c ∗ Pipeline.scopedRest cfg0.spec c) := by
  rw [show (dats (F := F) m 0 c).Φ (Fin.last cfg0.N) = Φ₁ m c from rfl, scopedRest0_eq]
  unfold Φ₁ left₁
  rw [← sems_eq c]
  iintro ⟨Hr, Ha, Ho, Hu⟩
  isplitl [Hu Ha]
  · isplitl [Hu] <;> iassumption
  isplitl [Ho] <;> iassumption

/-- The pipeline's own waits are admissible. -/
theorem waits (c : Dev nD) : (levAts L lv : sProp 𝕄) ⊢ Pipeline.cellsWaits cfgs (dats (F := F) m) () 0 c :=
  Pipeline.cellsWaits_intro cfgs (dats (F := F) m) () 0 c fun w s t => by
    fin_cases w; fin_cases s
    exact mayWait_stage c _ (by
      rcases t with ⟨_ | _, ht⟩
      · exact Or.inl rfl
      · exact Or.inr rfl)

/-- Every window is held whole. -/
theorem share_eq (c : Dev nD) (w : Fin cfg0.W) : (dats (F := F) m 0 c).share w = fullShare := by unfold Dat.share; split <;> rfl

/-- The result array after the run, as the pipeline computes it. -/
def finalA (c : Dev nD) (w : Fin cfg0.W) : Buf (Elt F) ((cfg0.win w).arr.view.loc (c : Thread nD τ)) := (dats (F := F) m 0 c).arrAt w cfg0.N

/-- It is the gathered array. -/
theorem finalA_eq (c : Dev nD) : finalA m c (0 : Fin 1) = gath m := by
  have hz : (fun a => (win0_0.index (0 : Fin 1)) a * main_v1.ty.shape.size a) = fun _ => 0 :=
    funext fun a => by fin_cases a <;> decide
  have hr := fun f => Memref.read_access_unit_zero (Elt F) main_v1 hz (fun a => by fin_cases a <;> decide) f
  have h : (win0_0.blk (0 : Fin 1)).view.read (Elt F) (finalA m c (0 : Fin 1)) = gath m := by
    unfold finalA
    rw [show cfg0.N = ((0 : Fin 1) : Fin cfg0.N).val + 1 from rfl, (dats (F := F) m 0 c).arrAt_succ (0 : Fin 1) (0 : Fin 1),
      show (cfg0.win (0 : Fin 1)).flush (0 : Fin 1) = true from flush0_0 _, if_pos rfl]
    exact View.read_write_univ _ _
  rw [hr] at h
  exact h

set_option maxRecDepth 8000 in
/-- From any memory with all counters at zero, for any float values: every fair execution ends; then every device's
    result is the gathered array, its argument is as it was, and every counter is at zero. -/
theorem run_main : θ_run defs (onTc (τ := τ) (main (F := F))) (s₀ m ρ) (fun r =>
    (∀ c : Dev nD, r.2.mem ((c : Thread nD τ).loc main_v1) = gath m ∧ r.2.mem ((c : Thread nD τ).loc main_arg0) = xin m c) ∧ r.2.sem = fun _ => 0) :=
  Pipeline.θ_run_region_owing_glob_pf (fun p => (cfgs p).toPCfg) (fun p => (cfgs p).toPCfg_adm) (dats (F := F) m) () cellOf_inj (0 : Fin 1)
    winFacts0.to₀ ownSemFacts (Pipeline.PreFacts.none _) EP defs₀ 𝒱₀ m ρ main
    (hmain := fun _ => rfl)
    (hbody := body_ok m) (hne := block_pos0) (harr := arr_whole0) (hstage := stage_whole0) (hshare := share_eq m)
    (hdistinct := winFacts0.arr_inj)
    (O₀ := owe₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := begin₀ m) (Y := left₁ m) (Z := fun _ => iprop(emp))
    (hX := begin_intro m ρ) (hin := enter m) (hout := leave m)
    (QY := fun c s => (∀ sm : SemLoc sig, sm.isScoped .tc = false → s.sem ((c.tc : Thread nD τ), sm) = 0) ∧ s.mem ((c : Thread nD τ).loc main_arg0) = xin m c)
    (hY := fun c s' => by
      unfold left₁
      iintro ⟨⟨Hu, Ha⟩, -, HSI⟩
      icombine HSI Ha gives %ha
      imod (Pipeline.unscopedSems0_read (X := unscopedSems0 c) (c := c) fupd_intro s') $$ [Hu HSI] with ⟨%hs, HSI⟩
      · isplitl [Hu] <;> iassumption
      imodintro
      isplitr
      · ipureintro; exact ⟨hs, Buf.eq_of_forall_mem_univ ha⟩
      · iexact HSI)
    (hQ := fun _ h hs => ⟨fun c => ⟨((h c).1 (0 : Fin 1)).trans (finalA_eq m c), (h c).2.2.2⟩, sem_eq_zero hs fun c => (h c).2.2.1⟩)

end Cert.Gather

end
-- ==== Proof.Value.lean ====
/-
# What is gathered

The gathered array of the devices' blocks is the array they were cut from; and the reference's run.
-/
module

public import proofs.«01_k».proof.Proof.Launch
public import proofs.«01_k».proof.Proof.Gen.ReferenceIdeal
public import Idealize.ShloMosaic.Lib.StableHlo.Run
public import Idealize.ShloMosaic.Lib.Layout
public import Idealize.ShloMosaic.Lib.Quiescent

@[expose] public section

noncomputable section

namespace Cert.Gather

open Idealize.ShloMosaic Idealize.ShloMosaic.TcCoe Idealize.SL.Sem

section Blocks

open Cert.KernelIdeal

variable {F : FTy → Type} [FloatOps F]

omit [FloatOps F] in
/-- The place of an element in its device's block is, counted in the whole array, the element's own. -/
theorem idx_loc (h : Layout.Tiles S2048x512 S8192x512 0 4) (i : S8192x512.Idx) : h.idx (blk i) (loc i) = i := by
  have h0 : (h.idx (blk i) (loc i) 0).val = (i 0).val := by
    show (i 0).val / 2048 * 2048 + (loc i 0).val = _
    rw [loc_0]; exact Nat.div_add_mod' _ _
  have h1 : (h.idx (blk i) (loc i) 1).val = (i 1).val := by
    show (loc i 1).val = _
    exact loc_1 i
  funext a
  fin_cases a
  · exact Fin.ext h0
  · exact Fin.ext h1

omit [FloatOps F] in
/-- Where every device holds its block of an array, the gathered array is that array. -/
theorem gath_eq (m : (ℓ : Loc nD τ sig) → Buf (Elt F) ℓ) (x : (cc0_stg0_0 : Ref sig .tc).ty.Contents (Elt F)) (h : Layout.Tiles S2048x512 S8192x512 0 4)
    (hx : ∀ c : Dev nD, xin m c = Layout.block S2048x512 S8192x512 0 4 c x h) : gath m = x := by
  funext i
  show xin m (blk i) (loc i) = x i
  rw [hx (blk i), Layout.block_apply, idx_loc]

end Blocks

section Reference

open Cert.ReferenceIdeal Idealize.ShloMosaic.StableHlo

/-- The reference does nothing: every buffer ends as it was, and it has no semaphores. -/
theorem run_ref (m : (ℓ : Loc nD τ sig) → Buf (Elt Ideal) ℓ) (g : Dev nD → PrngReg) :
    θ_run (defs (F := Ideal)) (onTc (τ := τ) (main (F := Ideal))) ⟨m, fun _ => 0, g⟩
      (fun r => (∀ c : Dev nD, r.2.mem ((c : Thread nD τ).loc main_arg0) = m ((c : Thread nD τ).loc main_arg0)) ∧ r.2.sem = fun _ => 0) :=
  (θ_run (defs (F := Ideal)) _ _).mono (fun r h => ⟨fun c => h c main_arg0, sem_eq_zero_of_no_sems (by decide) r.2⟩)
    (run_seq (by decide) (by decide) (defs (F := Ideal)) (main (F := Ideal)) (fun _ => []) (fun _ => rfl) (fun _ => trivial) m g)

end Reference

end Cert.Gather

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel, at any float values, runs and leaves its argument and every counter as they were. -/
theorem frame {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).2, h.2⟩) (Cert.Gather.run_main (F := F) m g)

/-- The two printed programs have the same body table: -/
theorem table₀ {F : FTy → Type} [FloatOps F] : Cert.Kernel.defs₀ (F := F) = Cert.KernelIdeal.defs₀ (F := F) := by
  unfold Cert.Kernel.defs₀ Cert.KernelIdeal.defs₀
  refine congrArg Defs.onTc (funext fun l => funext fun x => ?_)
  obtain ⟨_ | _, hl⟩ := l
  · obtain ⟨t, s⟩ := x
    rfl
  · omega

/-- with the pipeline's labels too. -/
theorem table {F : FTy → Type} [FloatOps F] : Cert.Kernel.defs (F := F) = Cert.KernelIdeal.defs (F := F) :=
  congrArg (Pipeline.defs (Cert.Kernel.pcfgs (F := F))) table₀

/-- So at machine floats, -/
theorem frame_kernel : Cert.quiescent_Kernel := fun m g _ => by
  have h := frame (F := Bits) m g
  rw [← table] at h
  exact h

/-- and at extended reals. -/
theorem frame_ideal : Cert.quiescent_KernelIdeal := fun m g _ => frame (F := Ideal) m g

/-- The reference too. -/
theorem frame_ref : Cert.quiescent_ReferenceIdeal := fun m g _ => Cert.Gather.run_ref m g

/-- Every device's result is the reference's: the whole array. -/
theorem algebraic : Cert.algebraic_KernelIdeal_ReferenceIdeal := fun m g m' g' _ hx =>
  ⟨m' (((0 : Dev Cert.ReferenceIdeal.nD).tc : Thread Cert.ReferenceIdeal.nD Cert.ReferenceIdeal.τ).loc Cert.ReferenceIdeal.main_arg0),
    (θ_run Cert.KernelIdeal.defs _ _).mono (fun _ h c => ⟨(h.1 c).1.trans (Cert.Gather.gath_eq m _ _ hx), (h.1 c).2⟩)
      (Cert.Gather.run_main (F := Ideal) m g),
    (θ_run Cert.ReferenceIdeal.defs _ _).mono (fun _ h => ⟨h.1 0, h.1 0⟩) (Cert.Gather.run_ref m' g')⟩

/-- Everything the certificate claims. -/
theorem claim : Cert.Claim := ⟨Cert.Kernel.Gen.facts, Cert.KernelIdeal.Gen.facts, Cert.ReferenceIdeal.Gen.facts,
  frame_kernel, frame_ideal, frame_ref, trivial, algebraic⟩

end Cert.Proof

end
